-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S3x4096x512 : Shape := ⟨3, ![3, 4096, 512]⟩
abbrev S16x256x512 : Shape := ⟨3, ![16, 256, 512]⟩
abbrev S3 : Shape := ⟨1, ![3]⟩
abbrev S16 : Shape := ⟨1, ![16]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 7
  | .smem => 2
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S3x4096x512, .f32⟩
  | .local _ .vmem, ⟨3, _⟩ => ⟨S256x4096, .bf16⟩
  | .local _ .vmem, ⟨4, _⟩ => ⟨S4096x512, .bf16⟩
  | .local _ .vmem, ⟨5, _⟩ => ⟨S16x256x512, .bf16⟩
  | .local _ .vmem, ⟨6, _⟩ => ⟨S16x256x512, .bf16⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c8_i32_141 : BitVec 32) : Fin 2 → Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c8_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c512_i32 : BitVec 32 := 512#32
  let v219 : BitVec 32 := Scalar.muli v218 c512_i32
  ![0, v219.toNat]
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_203 : BitVec 32 := 8#32
  let v291 : BitVec 32 := Scalar.addi v2 c8_i32_203
  let c16_i32_204 : BitVec 32 := 16#32
  let c0_i32_205 : BitVec 32 := 0#32
  let v292 : BitVec 1 := Scalar.cmpi .eq c16_i32_204 c0_i32_205
  let c1_i32_206 : BitVec 32 := 1#32
  let v293 : BitVec 32 := Scalar.select v292 c1_i32_206 c16_i32_204
  let v294 : BitVec 32 := Scalar.remsi v291 v293
  let c0_i32_208 : BitVec 32 := 0#32
  let v296 : BitVec 1 := Scalar.cmpi .slt v294 c0_i32_208
  let c0_i32_209 : BitVec 32 := 0#32
  let v297 : BitVec 1 := Scalar.cmpi .slt v293 c0_i32_209
  let v298 : BitVec 1 := Scalar.xori v296 v297
  let c0_i32_207 : BitVec 32 := 0#32
  let v295 : BitVec 1 := Scalar.cmpi .ne v294 c0_i32_207
  let v299 : BitVec 1 := Scalar.andi v298 v295
  let v300 : BitVec 32 := Scalar.addi v294 v293
  let v301 : BitVec 32 := Scalar.select v299 v300 v294
  let c1_i32_214 : BitVec 32 := 1#32
  let v302 : BitVec 32 := Scalar.muli v301 c1_i32_214
  let v303 : BitVec 32 := Scalar.addi c0_i32_215 v302
  v303.toNat
def k0_dev17 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_257 : BitVec 32 := 9#32
  let v361 : BitVec 32 := Scalar.addi v2 c9_i32_257
  let c16_i32_258 : BitVec 32 := 16#32
  let c0_i32_259 : BitVec 32 := 0#32
  let v362 : BitVec 1 := Scalar.cmpi .eq c16_i32_258 c0_i32_259
  let c1_i32_260 : BitVec 32 := 1#32
  let v363 : BitVec 32 := Scalar.select v362 c1_i32_260 c16_i32_258
  let v364 : BitVec 32 := Scalar.remsi v361 v363
  let c0_i32_262 : BitVec 32 := 0#32
  let v366 : BitVec 1 := Scalar.cmpi .slt v364 c0_i32_262
  let c0_i32_263 : BitVec 32 := 0#32
  let v367 : BitVec 1 := Scalar.cmpi .slt v363 c0_i32_263
  let v368 : BitVec 1 := Scalar.xori v366 v367
  let c0_i32_261 : BitVec 32 := 0#32
  let v365 : BitVec 1 := Scalar.cmpi .ne v364 c0_i32_261
  let v369 : BitVec 1 := Scalar.andi v368 v365
  let v370 : BitVec 32 := Scalar.addi v364 v363
  let v371 : BitVec 32 := Scalar.select v369 v370 v364
  let c1_i32_268 : BitVec 32 := 1#32
  let v372 : BitVec 32 := Scalar.muli v371 c1_i32_268
  let v373 : BitVec 32 := Scalar.addi c0_i32_269 v372
  v373.toNat
def k0_dev18 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_311 : BitVec 32 := 10#32
  let v431 : BitVec 32 := Scalar.addi v2 c10_i32_311
  let c16_i32_312 : BitVec 32 := 16#32
  let c0_i32_313 : BitVec 32 := 0#32
  let v432 : BitVec 1 := Scalar.cmpi .eq c16_i32_312 c0_i32_313
  let c1_i32_314 : BitVec 32 := 1#32
  let v433 : BitVec 32 := Scalar.select v432 c1_i32_314 c16_i32_312
  let v434 : BitVec 32 := Scalar.remsi v431 v433
  let c0_i32_316 : BitVec 32 := 0#32
  let v436 : BitVec 1 := Scalar.cmpi .slt v434 c0_i32_316
  let c0_i32_317 : BitVec 32 := 0#32
  let v437 : BitVec 1 := Scalar.cmpi .slt v433 c0_i32_317
  let v438 : BitVec 1 := Scalar.xori v436 v437
  let c0_i32_315 : BitVec 32 := 0#32
  let v435 : BitVec 1 := Scalar.cmpi .ne v434 c0_i32_315
  let v439 : BitVec 1 := Scalar.andi v438 v435
  let v440 : BitVec 32 := Scalar.addi v434 v433
  let v441 : BitVec 32 := Scalar.select v439 v440 v434
  let c1_i32_322 : BitVec 32 := 1#32
  let v442 : BitVec 32 := Scalar.muli v441 c1_i32_322
  let v443 : BitVec 32 := Scalar.addi c0_i32_323 v442
  v443.toNat
def k0_dev19 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_366 : BitVec 32 := 11#32
  let v501 : BitVec 32 := Scalar.addi v2 c11_i32_366
  let c16_i32_367 : BitVec 32 := 16#32
  let c0_i32_368 : BitVec 32 := 0#32
  let v502 : BitVec 1 := Scalar.cmpi .eq c16_i32_367 c0_i32_368
  let c1_i32_369 : BitVec 32 := 1#32
  let v503 : BitVec 32 := Scalar.select v502 c1_i32_369 c16_i32_367
  let v504 : BitVec 32 := Scalar.remsi v501 v503
  let c0_i32_371 : BitVec 32 := 0#32
  let v506 : BitVec 1 := Scalar.cmpi .slt v504 c0_i32_371
  let c0_i32_372 : BitVec 32 := 0#32
  let v507 : BitVec 1 := Scalar.cmpi .slt v503 c0_i32_372
  let v508 : BitVec 1 := Scalar.xori v506 v507
  let c0_i32_370 : BitVec 32 := 0#32
  let v505 : BitVec 1 := Scalar.cmpi .ne v504 c0_i32_370
  let v509 : BitVec 1 := Scalar.andi v508 v505
  let v510 : BitVec 32 := Scalar.addi v504 v503
  let v511 : BitVec 32 := Scalar.select v509 v510 v504
  let c1_i32_377 : BitVec 32 := 1#32
  let v512 : BitVec 32 := Scalar.muli v511 c1_i32_377
  let v513 : BitVec 32 := Scalar.addi c0_i32_378 v512
  v513.toNat
def k0_dev20 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_421 : BitVec 32 := 4#32
  let v571 : BitVec 32 := Scalar.addi v2 c4_i32_421
  let c16_i32_422 : BitVec 32 := 16#32
  let c0_i32_423 : BitVec 32 := 0#32
  let v572 : BitVec 1 := Scalar.cmpi .eq c16_i32_422 c0_i32_423
  let c1_i32_424 : BitVec 32 := 1#32
  let v573 : BitVec 32 := Scalar.select v572 c1_i32_424 c16_i32_422
  let v574 : BitVec 32 := Scalar.remsi v571 v573
  let c0_i32_426 : BitVec 32 := 0#32
  let v576 : BitVec 1 := Scalar.cmpi .slt v574 c0_i32_426
  let c0_i32_427 : BitVec 32 := 0#32
  let v577 : BitVec 1 := Scalar.cmpi .slt v573 c0_i32_427
  let v578 : BitVec 1 := Scalar.xori v576 v577
  let c0_i32_425 : BitVec 32 := 0#32
  let v575 : BitVec 1 := Scalar.cmpi .ne v574 c0_i32_425
  let v579 : BitVec 1 := Scalar.andi v578 v575
  let v580 : BitVec 32 := Scalar.addi v574 v573
  let v581 : BitVec 32 := Scalar.select v579 v580 v574
  let c1_i32_432 : BitVec 32 := 1#32
  let v582 : BitVec 32 := Scalar.muli v581 c1_i32_432
  let v583 : BitVec 32 := Scalar.addi c0_i32_433 v582
  v583.toNat
def k0_dev21 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_476 : BitVec 32 := 12#32
  let v641 : BitVec 32 := Scalar.addi v2 c12_i32_476
  let c16_i32_477 : BitVec 32 := 16#32
  let c0_i32_478 : BitVec 32 := 0#32
  let v642 : BitVec 1 := Scalar.cmpi .eq c16_i32_477 c0_i32_478
  let c1_i32_479 : BitVec 32 := 1#32
  let v643 : BitVec 32 := Scalar.select v642 c1_i32_479 c16_i32_477
  let v644 : BitVec 32 := Scalar.remsi v641 v643
  let c0_i32_481 : BitVec 32 := 0#32
  let v646 : BitVec 1 := Scalar.cmpi .slt v644 c0_i32_481
  let c0_i32_482 : BitVec 32 := 0#32
  let v647 : BitVec 1 := Scalar.cmpi .slt v643 c0_i32_482
  let v648 : BitVec 1 := Scalar.xori v646 v647
  let c0_i32_480 : BitVec 32 := 0#32
  let v645 : BitVec 1 := Scalar.cmpi .ne v644 c0_i32_480
  let v649 : BitVec 1 := Scalar.andi v648 v645
  let v650 : BitVec 32 := Scalar.addi v644 v643
  let v651 : BitVec 32 := Scalar.select v649 v650 v644
  let c1_i32_487 : BitVec 32 := 1#32
  let v652 : BitVec 32 := Scalar.muli v651 c1_i32_487
  let v653 : BitVec 32 := Scalar.addi c0_i32_488 v652
  v653.toNat
def k0_dev22 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_531 : BitVec 32 := 5#32
  let v711 : BitVec 32 := Scalar.addi v2 c5_i32_531
  let c16_i32_532 : BitVec 32 := 16#32
  let c0_i32_533 : BitVec 32 := 0#32
  let v712 : BitVec 1 := Scalar.cmpi .eq c16_i32_532 c0_i32_533
  let c1_i32_534 : BitVec 32 := 1#32
  let v713 : BitVec 32 := Scalar.select v712 c1_i32_534 c16_i32_532
  let v714 : BitVec 32 := Scalar.remsi v711 v713
  let c0_i32_536 : BitVec 32 := 0#32
  let v716 : BitVec 1 := Scalar.cmpi .slt v714 c0_i32_536
  let c0_i32_537 : BitVec 32 := 0#32
  let v717 : BitVec 1 := Scalar.cmpi .slt v713 c0_i32_537
  let v718 : BitVec 1 := Scalar.xori v716 v717
  let c0_i32_535 : BitVec 32 := 0#32
  let v715 : BitVec 1 := Scalar.cmpi .ne v714 c0_i32_535
  let v719 : BitVec 1 := Scalar.andi v718 v715
  let v720 : BitVec 32 := Scalar.addi v714 v713
  let v721 : BitVec 32 := Scalar.select v719 v720 v714
  let c1_i32_542 : BitVec 32 := 1#32
  let v722 : BitVec 32 := Scalar.muli v721 c1_i32_542
  let v723 : BitVec 32 := Scalar.addi c0_i32_543 v722
  v723.toNat
def k0_dev23 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_586 : BitVec 32 := 13#32
  let v781 : BitVec 32 := Scalar.addi v2 c13_i32_586
  let c16_i32_587 : BitVec 32 := 16#32
  let c0_i32_588 : BitVec 32 := 0#32
  let v782 : BitVec 1 := Scalar.cmpi .eq c16_i32_587 c0_i32_588
  let c1_i32_589 : BitVec 32 := 1#32
  let v783 : BitVec 32 := Scalar.select v782 c1_i32_589 c16_i32_587
  let v784 : BitVec 32 := Scalar.remsi v781 v783
  let c0_i32_591 : BitVec 32 := 0#32
  let v786 : BitVec 1 := Scalar.cmpi .slt v784 c0_i32_591
  let c0_i32_592 : BitVec 32 := 0#32
  let v787 : BitVec 1 := Scalar.cmpi .slt v783 c0_i32_592
  let v788 : BitVec 1 := Scalar.xori v786 v787
  let c0_i32_590 : BitVec 32 := 0#32
  let v785 : BitVec 1 := Scalar.cmpi .ne v784 c0_i32_590
  let v789 : BitVec 1 := Scalar.andi v788 v785
  let v790 : BitVec 32 := Scalar.addi v784 v783
  let v791 : BitVec 32 := Scalar.select v789 v790 v784
  let c1_i32_597 : BitVec 32 := 1#32
  let v792 : BitVec 32 := Scalar.muli v791 c1_i32_597
  let v793 : BitVec 32 := Scalar.addi c0_i32_598 v792
  v793.toNat
def k0_dev24 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_641 : BitVec 32 := 6#32
  let v851 : BitVec 32 := Scalar.addi v2 c6_i32_641
  let c16_i32_642 : BitVec 32 := 16#32
  let c0_i32_643 : BitVec 32 := 0#32
  let v852 : BitVec 1 := Scalar.cmpi .eq c16_i32_642 c0_i32_643
  let c1_i32_644 : BitVec 32 := 1#32
  let v853 : BitVec 32 := Scalar.select v852 c1_i32_644 c16_i32_642
  let v854 : BitVec 32 := Scalar.remsi v851 v853
  let c0_i32_646 : BitVec 32 := 0#32
  let v856 : BitVec 1 := Scalar.cmpi .slt v854 c0_i32_646
  let c0_i32_647 : BitVec 32 := 0#32
  let v857 : BitVec 1 := Scalar.cmpi .slt v853 c0_i32_647
  let v858 : BitVec 1 := Scalar.xori v856 v857
  let c0_i32_645 : BitVec 32 := 0#32
  let v855 : BitVec 1 := Scalar.cmpi .ne v854 c0_i32_645
  let v859 : BitVec 1 := Scalar.andi v858 v855
  let v860 : BitVec 32 := Scalar.addi v854 v853
  let v861 : BitVec 32 := Scalar.select v859 v860 v854
  let c1_i32_652 : BitVec 32 := 1#32
  let v862 : BitVec 32 := Scalar.muli v861 c1_i32_652
  let v863 : BitVec 32 := Scalar.addi c0_i32_653 v862
  v863.toNat
def k0_dev25 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_696 : BitVec 32 := 14#32
  let v921 : BitVec 32 := Scalar.addi v2 c14_i32_696
  let c16_i32_697 : BitVec 32 := 16#32
  let c0_i32_698 : BitVec 32 := 0#32
  let v922 : BitVec 1 := Scalar.cmpi .eq c16_i32_697 c0_i32_698
  let c1_i32_699 : BitVec 32 := 1#32
  let v923 : BitVec 32 := Scalar.select v922 c1_i32_699 c16_i32_697
  let v924 : BitVec 32 := Scalar.remsi v921 v923
  let c0_i32_701 : BitVec 32 := 0#32
  let v926 : BitVec 1 := Scalar.cmpi .slt v924 c0_i32_701
  let c0_i32_702 : BitVec 32 := 0#32
  let v927 : BitVec 1 := Scalar.cmpi .slt v923 c0_i32_702
  let v928 : BitVec 1 := Scalar.xori v926 v927
  let c0_i32_700 : BitVec 32 := 0#32
  let v925 : BitVec 1 := Scalar.cmpi .ne v924 c0_i32_700
  let v929 : BitVec 1 := Scalar.andi v928 v925
  let v930 : BitVec 32 := Scalar.addi v924 v923
  let v931 : BitVec 32 := Scalar.select v929 v930 v924
  let c1_i32_707 : BitVec 32 := 1#32
  let v932 : BitVec 32 := Scalar.muli v931 c1_i32_707
  let v933 : BitVec 32 := Scalar.addi c0_i32_708 v932
  v933.toNat
def k0_dev26 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_751 : BitVec 32 := 7#32
  let v991 : BitVec 32 := Scalar.addi v2 c7_i32_751
  let c16_i32_752 : BitVec 32 := 16#32
  let c0_i32_753 : BitVec 32 := 0#32
  let v992 : BitVec 1 := Scalar.cmpi .eq c16_i32_752 c0_i32_753
  let c1_i32_754 : BitVec 32 := 1#32
  let v993 : BitVec 32 := Scalar.select v992 c1_i32_754 c16_i32_752
  let v994 : BitVec 32 := Scalar.remsi v991 v993
  let c0_i32_756 : BitVec 32 := 0#32
  let v996 : BitVec 1 := Scalar.cmpi .slt v994 c0_i32_756
  let c0_i32_757 : BitVec 32 := 0#32
  let v997 : BitVec 1 := Scalar.cmpi .slt v993 c0_i32_757
  let v998 : BitVec 1 := Scalar.xori v996 v997
  let c0_i32_755 : BitVec 32 := 0#32
  let v995 : BitVec 1 := Scalar.cmpi .ne v994 c0_i32_755
  let v999 : BitVec 1 := Scalar.andi v998 v995
  let v1000 : BitVec 32 := Scalar.addi v994 v993
  let v1001 : BitVec 32 := Scalar.select v999 v1000 v994
  let c1_i32_762 : BitVec 32 := 1#32
  let v1002 : BitVec 32 := Scalar.muli v1001 c1_i32_762
  let v1003 : BitVec 32 := Scalar.addi c0_i32_763 v1002
  v1003.toNat
def k0_dev27 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_806 : BitVec 32 := 15#32
  let v1061 : BitVec 32 := Scalar.addi v2 c15_i32_806
  let c16_i32_807 : BitVec 32 := 16#32
  let c0_i32_808 : BitVec 32 := 0#32
  let v1062 : BitVec 1 := Scalar.cmpi .eq c16_i32_807 c0_i32_808
  let c1_i32_809 : BitVec 32 := 1#32
  let v1063 : BitVec 32 := Scalar.select v1062 c1_i32_809 c16_i32_807
  let v1064 : BitVec 32 := Scalar.remsi v1061 v1063
  let c0_i32_811 : BitVec 32 := 0#32
  let v1066 : BitVec 1 := Scalar.cmpi .slt v1064 c0_i32_811
  let c0_i32_812 : BitVec 32 := 0#32
  let v1067 : BitVec 1 := Scalar.cmpi .slt v1063 c0_i32_812
  let v1068 : BitVec 1 := Scalar.xori v1066 v1067
  let c0_i32_810 : BitVec 32 := 0#32
  let v1065 : BitVec 1 := Scalar.cmpi .ne v1064 c0_i32_810
  let v1069 : BitVec 1 := Scalar.andi v1068 v1065
  let v1070 : BitVec 32 := Scalar.addi v1064 v1063
  let v1071 : BitVec 32 := Scalar.select v1069 v1070 v1064
  let c1_i32_817 : BitVec 32 := 1#32
  let v1072 : BitVec 32 := Scalar.muli v1071 c1_i32_817
  let v1073 : BitVec 32 := Scalar.addi c0_i32_818 v1072
  v1073.toNat
def k0_dev28 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_862 : BitVec 32 := 1#32
  let v1131 : BitVec 32 := Scalar.addi v2 c1_i32_862
  let c16_i32_863 : BitVec 32 := 16#32
  let c0_i32_864 : BitVec 32 := 0#32
  let v1132 : BitVec 1 := Scalar.cmpi .eq c16_i32_863 c0_i32_864
  let c1_i32_865 : BitVec 32 := 1#32
  let v1133 : BitVec 32 := Scalar.select v1132 c1_i32_865 c16_i32_863
  let v1134 : BitVec 32 := Scalar.remsi v1131 v1133
  let c0_i32_867 : BitVec 32 := 0#32
  let v1136 : BitVec 1 := Scalar.cmpi .slt v1134 c0_i32_867
  let c0_i32_868 : BitVec 32 := 0#32
  let v1137 : BitVec 1 := Scalar.cmpi .slt v1133 c0_i32_868
  let v1138 : BitVec 1 := Scalar.xori v1136 v1137
  let c0_i32_866 : BitVec 32 := 0#32
  let v1135 : BitVec 1 := Scalar.cmpi .ne v1134 c0_i32_866
  let v1139 : BitVec 1 := Scalar.andi v1138 v1135
  let v1140 : BitVec 32 := Scalar.addi v1134 v1133
  let v1141 : BitVec 32 := Scalar.select v1139 v1140 v1134
  let c1_i32_873 : BitVec 32 := 1#32
  let v1142 : BitVec 32 := Scalar.muli v1141 c1_i32_873
  let v1143 : BitVec 32 := Scalar.addi c0_i32_874 v1142
  v1143.toNat
def k0_dev29 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_918 : BitVec 32 := 2#32
  let v1201 : BitVec 32 := Scalar.addi v2 c2_i32_918
  let c16_i32_919 : BitVec 32 := 16#32
  let c0_i32_920 : BitVec 32 := 0#32
  let v1202 : BitVec 1 := Scalar.cmpi .eq c16_i32_919 c0_i32_920
  let c1_i32_921 : BitVec 32 := 1#32
  let v1203 : BitVec 32 := Scalar.select v1202 c1_i32_921 c16_i32_919
  let v1204 : BitVec 32 := Scalar.remsi v1201 v1203
  let c0_i32_923 : BitVec 32 := 0#32
  let v1206 : BitVec 1 := Scalar.cmpi .slt v1204 c0_i32_923
  let c0_i32_924 : BitVec 32 := 0#32
  let v1207 : BitVec 1 := Scalar.cmpi .slt v1203 c0_i32_924
  let v1208 : BitVec 1 := Scalar.xori v1206 v1207
  let c0_i32_922 : BitVec 32 := 0#32
  let v1205 : BitVec 1 := Scalar.cmpi .ne v1204 c0_i32_922
  let v1209 : BitVec 1 := Scalar.andi v1208 v1205
  let v1210 : BitVec 32 := Scalar.addi v1204 v1203
  let v1211 : BitVec 32 := Scalar.select v1209 v1210 v1204
  let c1_i32_929 : BitVec 32 := 1#32
  let v1212 : BitVec 32 := Scalar.muli v1211 c1_i32_929
  let v1213 : BitVec 32 := Scalar.addi c0_i32_930 v1212
  v1213.toNat
def k0_dev30 (d0 : Dev nD) : Nat :=
  let c0_i32_972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_960 : BitVec 32 := 3#32
  let v1254 : BitVec 32 := Scalar.addi v2 c3_i32_960
  let c16_i32_961 : BitVec 32 := 16#32
  let c0_i32_962 : BitVec 32 := 0#32
  let v1255 : BitVec 1 := Scalar.cmpi .eq c16_i32_961 c0_i32_962
  let c1_i32_963 : BitVec 32 := 1#32
  let v1256 : BitVec 32 := Scalar.select v1255 c1_i32_963 c16_i32_961
  let v1257 : BitVec 32 := Scalar.remsi v1254 v1256
  let c0_i32_965 : BitVec 32 := 0#32
  let v1259 : BitVec 1 := Scalar.cmpi .slt v1257 c0_i32_965
  let c0_i32_966 : BitVec 32 := 0#32
  let v1260 : BitVec 1 := Scalar.cmpi .slt v1256 c0_i32_966
  let v1261 : BitVec 1 := Scalar.xori v1259 v1260
  let c0_i32_964 : BitVec 32 := 0#32
  let v1258 : BitVec 1 := Scalar.cmpi .ne v1257 c0_i32_964
  let v1262 : BitVec 1 := Scalar.andi v1261 v1258
  let v1263 : BitVec 32 := Scalar.addi v1257 v1256
  let v1264 : BitVec 32 := Scalar.select v1262 v1263 v1257
  let c1_i32_971 : BitVec 32 := 1#32
  let v1265 : BitVec 32 := Scalar.muli v1264 c1_i32_971
  let v1266 : BitVec 32 := Scalar.addi c0_i32_972 v1265
  v1266.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v1303 : BitVec 32 := Scalar.muli v2 c256_i32
  let v1304 : Index := Scalar.indexCast v1303
  let c0_1000 : Index := 0#32
  ![v1304.toNat, 0]
def k0_off3 (d0 : Dev nD) (c1_i32_1001 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1306 : BitVec 32 := Scalar.subi v2 c1_i32_1001
  let c16_i32_1002 : BitVec 32 := 16#32
  let c0_i32_1003 : BitVec 32 := 0#32
  let v1307 : BitVec 1 := Scalar.cmpi .eq c16_i32_1002 c0_i32_1003
  let c1_i32_1004 : BitVec 32 := 1#32
  let v1308 : BitVec 32 := Scalar.select v1307 c1_i32_1004 c16_i32_1002
  let v1309 : BitVec 32 := Scalar.remsi v1306 v1308
  let c0_i32_1006 : BitVec 32 := 0#32
  let v1311 : BitVec 1 := Scalar.cmpi .slt v1309 c0_i32_1006
  let c0_i32_1007 : BitVec 32 := 0#32
  let v1312 : BitVec 1 := Scalar.cmpi .slt v1308 c0_i32_1007
  let v1313 : BitVec 1 := Scalar.xori v1311 v1312
  let c0_i32_1005 : BitVec 32 := 0#32
  let v1310 : BitVec 1 := Scalar.cmpi .ne v1309 c0_i32_1005
  let v1314 : BitVec 1 := Scalar.andi v1313 v1310
  let v1315 : BitVec 32 := Scalar.addi v1309 v1308
  let v1316 : BitVec 32 := Scalar.select v1314 v1315 v1309
  let c256_i32_1021 : BitVec 32 := 256#32
  let v1328 : BitVec 32 := Scalar.muli v1316 c256_i32_1021
  let v1329 : Index := Scalar.indexCast v1328
  let c0_1022 : Index := 0#32
  ![v1329.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Shape.lean ====
/-
The kernel body as a program of repeated steps.

The printed body is one long list of operations. Here it is written again as a few steps (a signal, the start of a
weight copy, a stage of the product, the arrival of a block, the end of a send), each a definition that takes its
number and the program that follows it, and repeated by `chain`. `body_eq` says the two programs are the same.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL.Sem

variable {F : FTy → Type} [FloatOps F]

/-- A program of the kernel's processor. -/
abbrev KP (F : FTy → Type) [FloatOps F] : Type 1 := Prog (TpuEff nD τ sig (Elt F) Λ₀ .tc) PUnit

/-! ## The buffers -/

abbrev xM : Memref sig .tc .vmem S256x4096 .f32 := Memref.whole cc0_stg0_0
abbrev wM : Memref sig .tc .hbm S4096x8192 .f32 := Memref.whole main_arg1
abbrev sxM : Memref sig .tc .smem S1 .f32 := Memref.whole cc0_stg1_0
abbrev swM : Memref sig .tc .smem S1 .f32 := Memref.whole cc0_stg2_0
abbrev oM : Memref sig .tc .vmem S4096x512 .f32 := Memref.whole cc0_stg3_0
abbrev w3M : Memref sig .tc .vmem S3x4096x512 .f32 := Memref.whole cc0_scratch0
abbrev xbM : Memref sig .tc .vmem S256x4096 .bf16 := Memref.whole cc0_scratch1
abbrev wbM : Memref sig .tc .vmem S4096x512 .bf16 := Memref.whole cc0_scratch2
abbrev sM : Memref sig .tc .vmem S16x256x512 .bf16 := Memref.whole cc0_scratch3
abbrev rM : Memref sig .tc .vmem S16x256x512 .bf16 := Memref.whole cc0_scratch4

/-! ## Slabs, cells and tables -/

theorem slab_inb (j : Fin 16) : ∀ a, (![j.val, 0, 0] : Fin 3 → Nat) a + S1x256x512.size a ≤ S16x256x512.size a := by
  revert j; decide
theorem slot_inb (s : Fin 3) : ∀ a, (![s.val, 0, 0] : Fin 3 → Nat) a + S1x4096x512.size a ≤ S3x4096x512.size a := by
  revert s; decide
theorem sem16_inb (j : Fin 16) : ∀ a, (![j.val] : Fin 1 → Nat) a + S1.size a ≤ S16.size a := by revert j; decide
theorem sem3_inb (s : Fin 3) : ∀ a, (![s.val] : Fin 1 → Nat) a + S1.size a ≤ S3.size a := by revert s; decide

/-- Slab `j` of a buffer of sixteen blocks; slot `s` of the buffer of three weight blocks. -/
abbrev slabR (j : Fin 16) : Rect S16x256x512 := Rect.unit (s := S16x256x512) ![j.val, 0, 0] S1x256x512.size (slab_inb j)
abbrev slotR (s : Fin 3) : Rect S3x4096x512 := Rect.unit (s := S3x4096x512) ![s.val, 0, 0] S1x4096x512.size (slot_inb s)

theorem slab_packed (j : Fin 16) : (slabR j).PackedRows (EltTy.packing .bf16) := by revert j; decide
theorem slab_words (j : Fin 16) : (slabR j).WholeWords (EltTy.packing .bf16) := by revert j; decide

/-- The columns of the weights that device `c` meets for its partner `j` places on. -/
abbrev wSrc (c : Dev nD) (j : Fin 16) : Memref sig .tc .hbm S4096x512 .f32 :=
  wM.slice (Rect.unit (s := S4096x8192) (k0_off1 c (BitVec.ofNat 32 j.val)) S4096x512.size (k0_off1_inb c j)) (fun _ => rfl)
abbrev wDst (s : Fin 3) : Memref sig .tc .vmem S4096x512 .f32 :=
  (w3M.slice (slotR s) (fun _ => rfl)).squeeze S4096x512 squeezes_S1x4096x512_S4096x512
abbrev sSlab (j : Fin 16) : Memref sig .tc .vmem S256x512 .bf16 :=
  (sM.slice (slabR j) (fun _ => rfl)).squeeze S256x512 squeezes_S1x256x512_S256x512
abbrev rSlab (j : Fin 16) : Memref sig .tc .vmem S256x512 .bf16 :=
  (rM.slice (slabR j) (fun _ => rfl)).squeeze S256x512 squeezes_S1x256x512_S256x512

abbrev wSem (s : Fin 3) : DmaSem sig :=
  ((cc0_scratch5.slice (Rect.unit (s := S3) ![s.val] S1.size (sem3_inb s))).squeeze S_ squeezes_S1_S_).sem
abbrev sSem (j : Fin 16) : DmaSem sig :=
  ((cc0_scratch6.slice (Rect.unit (s := S16) ![j.val] S1.size (sem16_inb j))).squeeze S_ squeezes_S1_S_).sem
abbrev rSem (j : Fin 16) : DmaSem sig :=
  ((cc0_scratch7.slice (Rect.unit (s := S16) ![j.val] S1.size (sem16_inb j))).squeeze S_ squeezes_S1_S_).sem

/-- The barrier semaphore of collective id 0. -/
abbrev barS : Sem sig := (SemArray.scalar (sig.barrier 0 rfl) : Sems sig S_).sem

/-- How many places on the partner of stage `t` is. -/
def order (t : ℕ) : Fin 16 := match t with
  | 0 => 8 | 1 => 9 | 2 => 10 | 3 => 11 | 4 => 4 | 5 => 12 | 6 => 5 | 7 => 13
  | 8 => 6 | 9 => 14 | 10 => 7 | 11 => 15 | 12 => 1 | 13 => 2 | 14 => 3 | _ => 0

/-- The weight slot of stage `t`. -/
def slot (t : ℕ) : Fin 3 := match t with
  | 0 => 0 | 1 => 1 | 2 => 2 | 3 => 0 | 4 => 1 | 5 => 2 | 6 => 0 | 7 => 1
  | 8 => 2 | 9 => 0 | 10 => 1 | 11 => 2 | 12 => 0 | 13 => 1 | 14 => 2 | 15 => 0 | _ => 1

/-- The index of the block that arrives `i`-th, and of the device signalled `i`-th. -/
def arr (i : ℕ) : Fin 15 := match i with
  | 0 => 0 | 1 => 1 | 2 => 2 | 3 => 3 | 4 => 4 | 5 => 5 | 6 => 6 | 7 => 7
  | 8 => 8 | 9 => 9 | 10 => 10 | 11 => 11 | 12 => 12 | 13 => 13 | _ => 14

/-- The device signalled `i`-th, as printed. -/
def sigDev (c : Dev nD) (i : ℕ) : Dev nD := match i with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | _ => ⟨k0_dev15 c, k0_dev15_lt c⟩

/-- The device the block of stage `t` is sent to, as printed. -/
def dstDev (c : Dev nD) (t : ℕ) : Dev nD := match t with
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | _ => ⟨k0_dev30 c, k0_dev30_lt c⟩

/-! ## The rectangles of the loads and stores -/

abbrev xR : Rect S256x4096 := Rect.unit (s := S256x4096) ![0, 0] S256x4096.size inb_S256x4096_S256x4096_0_0
abbrev wbR : Rect S4096x512 := Rect.unit (s := S4096x512) ![0, 0] S4096x512.size inb_S4096x512_S4096x512_0_0
abbrev ownR (c : Dev nD) : Rect S4096x512 := Rect.unit (s := S4096x512) (k0_off2 c) S256x512.size (k0_off2_inb c)
abbrev arrR (c : Dev nD) (r : Fin 15) : Rect S4096x512 :=
  Rect.unit (s := S4096x512) (k0_off3 c (BitVec.ofNat 32 (1 + r.val))) S256x512.size (k0_off3_inb c r)

/-! ## The steps -/

/-- `step a (step (a + 1) (… k))`, `n` steps. -/
def chain {A : Type 1} (step : ℕ → A → A) : ℕ → ℕ → A → A
  | 0, _, k => k
  | n + 1, a, k => step a (chain step n (a + 1) k)

/-- Signal the `i`-th device's barrier semaphore. -/
def sigStep (c : Dev nD) (i : ℕ) (k : KP F) : KP F :=
  .op (.semSignal ((sigDev c i, .tc) : Thread nD τ) barS (1#32 : BitVec 32).toInt) fun _ => k

/-- Start the copy of the weights of stage `t` into its slot. -/
def preStep (c : Dev nD) (t : ℕ) (k : KP F) : KP F :=
  .op (.enqueueDma (wSrc c (order t)) (.here (wDst (slot t))) (.dma (wSem (slot t))) (View.wordExact_bits rfl)
    ((View.wordExact_bits rfl).reshape _ _) ⟨Or.inl rfl, trivial⟩) fun _ => k

/-- Wait for the weights of stage `t`, round them, and continue with both operands of the product. -/
def mulStep (c : Dev nD) (t : ℕ) (k : Vec F S256x4096 .bf16 → Vec F S4096x512 .bf16 → KP F) : KP F :=
  .op (.waitDma2 (wSem (slot t)) (wSrc c (order t)) (wDst (slot t)) (View.wordExact_bits rfl) ((View.wordExact_bits rfl).reshape _ _)) fun _ =>
  .op (.load w3M (slotR (slot t)).toLoadRect (View.loadsAt_vmem h_S1x4096x512)) fun v =>
  .op (.load wbM wbR.toLoadRect (View.loadsAt_vmem h_S4096x512)) fun _ =>
  .op (.store wbM wbR (k0_pay3 v) Finset.univ (View.stores_vmem h_S4096x512
    ((Memref.isWhole_whole _).storeExact_slice rfl _ packedbf16_S4096x512_S4096x512_0_0) (fun _ => rfl)) (.inl rfl)) fun _ =>
  .op (.load xbM xR.toLoadRect (View.loadsAt_vmem h_S256x4096)) fun xb =>
  .op (.load wbM wbR.toLoadRect (View.loadsAt_vmem h_S4096x512)) fun wb => k xb wb

/-- Store the block of stage `t` in its slab and send it. -/
def putStep (c : Dev nD) (t : ℕ) (v : FVec F S1x256x512 .bf16) (k : KP F) : KP F :=
  .op (.load sM (slabR (order t)).toLoadRect (View.loadsAt_vmem h_S1x256x512)) fun _ =>
  .op (.store sM (slabR (order t)) v Finset.univ (View.stores_vmem h_S1x256x512
    ((Memref.isWhole_whole _).storeExact_slice rfl _ (slab_packed (order t))) (fun _ => rfl)) (.inl rfl)) fun _ =>
  .op (.enqueueDma (sSlab (order t)) (.remote (Dev.tc (dstDev c t)) (rSlab (order t)) (.dma (sSem (order t)))) (.dma (rSem (order t)))
    (((Memref.isWhole_whole _).wordExact_slice rfl _ (slab_words (order t))).reshape _ _)
    (((Memref.isWhole_whole _).wordExact_slice rfl _ (slab_words (order t))).reshape _ _) ⟨⟨rfl, Or.inl rfl⟩, trivial⟩) fun _ => k

/-- Stage `t`, one that sends its block. -/
def coreStep (c : Dev nD) (s : F .f32) (t : ℕ) (k : KP F) : KP F :=
  mulStep c t fun xb wb => putStep c t (k0_pay4 s xb wb) k

def stageStep (c : Dev nD) (s : F .f32) (t : ℕ) (k : KP F) : KP F := preStep c (t + 2) (coreStep c s t k)

/-- The last stage: the device's own block, stored in the result. -/
def ownStep (c : Dev nD) (s : F .f32) (k : KP F) : KP F :=
  mulStep c 15 fun xb wb =>
  .op (.load oM (ownR c).toLoadRect (View.loadsAt_vmem h_S256x512)) fun _ =>
  .op (.store oM (ownR c) (k0_pay38 s xb wb) Finset.univ (View.stores_vmem_bits_univ h_S256x512 rfl) (.inl rfl)) fun _ => k

/-- Wait for the block that arrives `i`-th and store it in the result. -/
def recvStep (c : Dev nD) (i : ℕ) (k : KP F) : KP F :=
  .op (.waitDma2 (rSem (arr i).succ) (sSlab (arr i).succ) (rSlab (arr i).succ)
    (((Memref.isWhole_whole _).wordExact_slice rfl _ (slab_words (arr i).succ)).reshape _ _)
    (((Memref.isWhole_whole _).wordExact_slice rfl _ (slab_words (arr i).succ)).reshape _ _)) fun _ =>
  .op (.load rM (slabR (arr i).succ).toLoadRect (View.loadsAt_vmem h_S1x256x512)) fun v =>
  .op (.load oM (arrR c (arr i)).toLoadRect (View.loadsAt_vmem h_S256x512)) fun _ =>
  .op (.store oM (arrR c (arr i)) (k0_pay39 v) Finset.univ (View.stores_vmem_bits_univ h_S256x512 rfl) (.inl rfl)) fun _ => k

/-- Wait for the end of the send of stage `t`. -/
def sentStep (t : ℕ) (k : KP F) : KP F :=
  .op (.waitDma2 (sSem (order t)) (rSlab (order t)) (sSlab (order t))
    (((Memref.isWhole_whole _).wordExact_slice rfl _ (slab_words (order t))).reshape _ _)
    (((Memref.isWhole_whole _).wordExact_slice rfl _ (slab_words (order t))).reshape _ _)) fun _ => k

/-- Everything after the scales are read: their product is `s`. -/
def mainPart (c : Dev nD) (s : F .f32) (k : KP F) : KP F :=
  preStep c 0 <| preStep c 1 <| chain (stageStep c s) 14 0 <| coreStep c s 14 <| ownStep c s <|
    chain (recvStep c) 15 0 <| chain sentStep 15 0 k

/-- The body on device `c`. -/
def bodyOn (c : Dev nD) : KP F :=
  chain (sigStep c) 15 0 <|
  .op (.semWait barS (15#32 : BitVec 32).toInt) fun _ =>
  .op (.load xM xR.toLoadRect (View.loadsAt_vmem h_S256x4096)) fun x =>
  .op (.load xbM xR.toLoadRect (View.loadsAt_vmem h_S256x4096)) fun _ =>
  .op (.store xbM xR (k0_pay1 x) Finset.univ (View.stores_vmem h_S256x4096
    ((Memref.isWhole_whole _).storeExact_slice rfl _ packedbf16_S256x4096_S256x4096_0_0) (fun _ => rfl)) (.inl rfl)) fun _ =>
  (smemLoad sxM (Rect.unit (s := S1) ![0] S1.size inb_S1_S1_0) numel1_S1 rfl).bind fun sx =>
  (smemLoad swM (Rect.unit (s := S1) ![0] S1.size inb_S1_S1_0) numel1_S1 rfl).bind fun sw =>
  mainPart c (k0_pay2 sx sw) (.ret ⟨⟩)

set_option maxRecDepth 1000000 in
set_option maxHeartbeats 4000000 in
/-- The printed body is the program of steps. -/
theorem body_eq :
    cc0_body (F := F) xM (Memref.isWhole_whole _) wM (Memref.isWhole_whole _) sxM (Memref.isWhole_whole _) swM (Memref.isWhole_whole _)
      oM (Memref.isWhole_whole _) w3M (Memref.isWhole_whole _) xbM (Memref.isWhole_whole _) wbM (Memref.isWhole_whole _)
      sM (Memref.isWhole_whole _) rM (Memref.isWhole_whole _) cc0_scratch5 cc0_scratch6 cc0_scratch7
      = .op .deviceId bodyOn := rfl

end Cert.KProof
-- ==== Proof.Vals.lean ====
/-
Where the slabs, slots and blocks lie in their buffers, which devices the printed device words name, and what the loads
read after the copies and stores.
-/
module

public import proofs.«01_k».proof.Proof.Shape
public import Idealize.ShloMosaic.Lib.Pipeline.Value
public import Idealize.ShloMosaic.Lib.Pipeline.ValueKit

@[expose] public section

noncomputable section

namespace Cert.KProof

open Cert.KernelIdeal Cert.KernelIdeal.Gen
open Idealize.ShloMosaic
open Idealize.ShloMosaic.TcCoe
open Idealize.SL.Sem

variable {F : FTy → Type} [FloatOps F]

/-! ## Devices -/

set_option backward.proofsInPublic true in
/-- The device `k` places on, and the one `k` places back. -/
def fwd (c : Dev nD) (k : Fin 16) : Dev nD := ⟨(c.val + k.val) % 16, Nat.mod_lt _ (by decide)⟩
set_option backward.proofsInPublic true in
def bwd (c : Dev nD) (k : Fin 16) : Dev nD := ⟨(c.val + (16 - k.val)) % 16, Nat.mod_lt _ (by decide)⟩

theorem bwd_fwd (c : Dev nD) (k : Fin 16) : bwd (fwd c k) k = c := by revert c k; decide +kernel
theorem fwd_bwd (c : Dev nD) (k : Fin 16) : fwd (bwd c k) k = c := by revert c k; decide +kernel
theorem fwd_zero (c : Dev nD) : fwd c 0 = c := by revert c; decide
/-- `15 - i` places on is `i + 1` places back. -/
theorem bwd_rev (c : Dev nD) (i : Fin 15) : bwd c i.rev.succ = fwd c i.succ := by revert c i; decide +kernel
theorem bwd_ne (c : Dev nD) (i : Fin 15) : bwd c i.succ ≠ c := by revert c i; decide +kernel
/-- Every device is this one or one of the fifteen places back. -/
theorem dev_cases (c s : Dev nD) : s = c ∨ ∃ r : Fin 15, s = bwd c r.succ := by revert c s; decide +kernel
theorem bwd_inj (c : Dev nD) (i j : Fin 15) (h : bwd c i.succ = bwd c j.succ) : i = j := by revert c i j; decide +kernel

/-- All devices, shifted. -/
def shift (k : Fin 16) : Dev nD ≃ Dev nD := ⟨fun c => fwd c k, fun c => bwd c k, fun c => bwd_fwd c k, fun c => fwd_bwd c k⟩

theorem arr_lt (i : Fin 15) : arr i.val = i := by revert i; decide
theorem sigDev_eq (c : Dev nD) (i : Fin 15) : sigDev c i.val = fwd c i.succ := by revert c i; decide +kernel

/-- The order of the sends, on the fifteen partners. -/
def ord (t : Fin 15) : Fin 15 := ![7, 8, 9, 10, 3, 11, 4, 12, 5, 13, 6, 14, 0, 1, 2] t
def ordInv (t : Fin 15) : Fin 15 := ![12, 13, 14, 4, 6, 8, 10, 0, 1, 2, 3, 5, 7, 9, 11] t
def ordE : Fin 15 ≃ Fin 15 := ⟨ord, ordInv, by decide, by decide⟩
theorem order_eq (t : Fin 15) : order t.val = (ord t).succ := by revert t; decide
theorem dstDev_eq (c : Dev nD) (t : Fin 15) : dstDev c t.val = fwd c (ord t).succ := by revert c t; decide +kernel

/-! ## Offsets -/

theorem off1_eq (c : Dev nD) (j : Fin 16) : k0_off1 c (BitVec.ofNat 32 j.val) = ![0, 512 * (fwd c j).val] := by
  revert c j; decide +kernel
theorem off3_eq (c : Dev nD) (r : Fin 15) : k0_off3 c (BitVec.ofNat 32 (1 + r.val)) = ![256 * (bwd c r.succ).val, 0] := by
  revert c r; decide +kernel

/-! ## Slabs and slots -/

theorem sSlab_set (j : Fin 16) : (sSlab j).view.set = (slabR j).set :=
  (View.set_reshape _ _).trans (View.set_slice_whole _ _)
theorem rSlab_set (j : Fin 16) : (rSlab j).view.set = (slabR j).set :=
  (View.set_reshape _ _).trans (View.set_slice_whole _ _)
theorem wDst_set (s : Fin 3) : (wDst s).view.set = (slotR s).set :=
  (View.set_reshape _ _).trans (View.set_slice_whole _ _)

theorem mem_slab (j : Fin 16) (i : S16x256x512.Idx) : i ∈ (slabR j).set ↔ i 0 = j := by
  rw [Rect.mem_set_unit]
  constructor
  · intro h
    have h0 := h 0
    simp at h0
    exact Fin.ext (by have := h0.1; have := h0.2; omega)
  · rintro h a
    have h1 : (i 1).val < 256 := (i 1).isLt
    have h2 : (i 2).val < 512 := (i 2).isLt
    fin_cases a
    · subst h; simp
    · simpa using h1
    · simpa using h2

theorem mem_slot (s : Fin 3) (i : S3x4096x512.Idx) : i ∈ (slotR s).set ↔ i 0 = s := by
  rw [Rect.mem_set_unit]
  constructor
  · intro h
    have h0 := h 0
    simp at h0
    exact Fin.ext (by have := h0.1; have := h0.2; omega)
  · rintro h a
    have h1 : (i 1).val < 4096 := (i 1).isLt
    have h2 : (i 2).val < 512 := (i 2).isLt
    fin_cases a
    · subst h; simp
    · simpa using h1
    · simpa using h2

theorem slab_disjoint (i j : Fin 16) (h : i ≠ j) : Disjoint (slabR i).set (slabR j).set :=
  Finset.disjoint_left.mpr fun x hi hj => h (((mem_slab i x).mp hi).symm.trans ((mem_slab j x).mp hj))
theorem slot_disjoint (i j : Fin 3) (h : i ≠ j) : Disjoint (slotR i).set (slotR j).set :=
  Finset.disjoint_left.mpr fun x hi hj => h (((mem_slot i x).mp hi).symm.trans ((mem_slot j x).mp hj))
theorem slab_cover : (Finset.univ : Finset (Fin 16)).biUnion (fun j => (slabR j).set) = (Finset.univ : Finset S16x256x512.Idx) :=
  Finset.ext fun x => ⟨fun _ => Finset.mem_univ _, fun _ => Finset.mem_biUnion.mpr ⟨x 0, Finset.mem_univ _, (mem_slab _ _).mpr rfl⟩⟩
theorem slot_cover : (Finset.univ : Finset (Fin 3)).biUnion (fun j => (slotR j).set) = (Finset.univ : Finset S3x4096x512.Idx) :=
  Finset.ext fun x => ⟨fun _ => Finset.mem_univ _, fun _ => Finset.mem_biUnion.mpr ⟨x 0, Finset.mem_univ _, (mem_slot _ _).mpr rfl⟩⟩

/-! ## What is read after a store, a send and a weight copy -/

theorem shapeCast_inj {s t : Shape} {α : Type} {v w : s.Idx → α} (h : s.ShapeCasts t) (h' : t.ShapeCasts s)
    (e : shapeCast t v h = shapeCast t w h) : v = w := by
  rw [← shapeCast_shapeCast v h h', ← shapeCast_shapeCast w h h', e]

/-- A block stored in slab `j` and sent to slab `j` of a partner is read there as it was stored. -/
theorem read_landed (j : Fin 16) (fd : (cc0_scratch4 : Ref sig .tc).ty.Contents (Elt F)) (fs : (cc0_scratch3 : Ref sig .tc).ty.Contents (Elt F))
    (v : FVec F S1x256x512 .bf16) :
    rM.view.readAt (Elt F) (slabR j).toLoadRect ((rSlab j).view.write (Elt F) fd
      ((sSlab j).view.read (Elt F) ((sM.access (slabR j)).write (Elt F) fs v Finset.univ)) Finset.univ) = v := by
  refine shapeCast_inj (t := S256x512) shapeCasts_S1x256x512_S256x512 shapeCasts_S256x512_S1x256x512 ?_
  rw [← Memref.read_squeeze_slice rM (slabR j) (fun _ => rfl) squeezes_S1x256x512_S256x512 shapeCasts_S1x256x512_S256x512,
    View.read_write_univ, Memref.read_squeeze_slice sM (slabR j) (fun _ => rfl) squeezes_S1x256x512_S256x512 shapeCasts_S1x256x512_S256x512]
  exact congrArg (fun w => shapeCast S256x512 w shapeCasts_S1x256x512_S256x512) (View.read_write_univ _ _)

theorem shapeCasts_wslot : S4096x512.ShapeCasts S1x4096x512 := by decide

/-- Weights copied to slot `s` are read there with a leading axis of one element. -/
theorem read_slot (s : Fin 3) (f : (cc0_scratch0 : Ref sig .tc).ty.Contents (Elt F)) (w : Vec F S4096x512 .f32) :
    w3M.view.readAt (Elt F) (slotR s).toLoadRect ((wDst s).view.write (Elt F) f w Finset.univ) = shapeCast S1x4096x512 w shapeCasts_wslot := by
  refine shapeCast_inj (t := S4096x512) shapeCasts_S1x4096x512_S4096x512 shapeCasts_wslot ?_
  rw [← Memref.read_squeeze_slice w3M (slotR s) (fun _ => rfl) squeezes_S1x4096x512_S4096x512 shapeCasts_S1x4096x512_S4096x512,
    View.read_write_univ]
  exact (shapeCast_shapeCast (s := S4096x512) (t := S1x4096x512) w shapeCasts_wslot shapeCasts_S1x4096x512_S4096x512).symm

/-! ## The result, block by block -/

variable (m : (ℓ : Loc nD τ sig) → Buf (Elt F) ℓ)

/-- The device's rows of `x`, its scales, and the weights it meets for the partner `j` places on. -/
def xAt (c : Dev nD) : (cc0_stg0_0 : Ref sig .tc).ty.Contents (Elt F) :=
  (win0_0.blk (0 : Fin 1)).view.read (Elt F) (m ((c : Thread nD τ).loc main_arg0))
def sxAt (c : Dev nD) : (cc0_stg1_0 : Ref sig .tc).ty.Contents (Elt F) :=
  (win0_1.blk (0 : Fin 1)).view.read (Elt F) (m ((c : Thread nD τ).loc main_arg2))
def swAt (c : Dev nD) : (cc0_stg2_0 : Ref sig .tc).ty.Contents (Elt F) :=
  (win0_2.blk (0 : Fin 1)).view.read (Elt F) (m ((c : Thread nD τ).loc main_arg3))
def wAt (c : Dev nD) (j : Fin 16) : Vec F S4096x512 .f32 := (wSrc c j).view.read (Elt F) (m ((c : Thread nD τ).loc main_arg1))

/-- The one index of a buffer of one element. -/
abbrev i0 : S1.Idx := Shape.Idx.first (by decide)

/-- The product of the scales; the rounded operands; a sent block; the device's own block. -/
def sAt (c : Dev nD) : F .f32 := k0_pay2 (sxAt m c i0) (swAt m c i0)
def xbAt (c : Dev nD) : FVec F S256x4096 .bf16 := k0_pay1 (xAt m c)
def wbAt (c : Dev nD) (j : Fin 16) : FVec F S4096x512 .bf16 := k0_pay3 (shapeCast S1x4096x512 (wAt m c j) shapeCasts_wslot)
def chunk (c : Dev nD) (j : Fin 16) : FVec F S1x256x512 .bf16 := k0_pay4 (sAt m c) (xbAt m c) (wbAt m c j)
def ownBlk (c : Dev nD) : FVec F S256x512 .f32 := k0_pay38 (sAt m c) (xbAt m c) (wbAt m c 0)
/-- The block that arrives from `r + 1` places back. -/
def arrBlk (c : Dev nD) (r : Fin 15) : FVec F S256x512 .f32 := k0_pay39 (chunk m (bwd c r.succ) r.succ)

set_option backward.proofsInPublic true in
/-- The row block an element of the result lies in, and its place there. -/
def rowDev (i : S4096x512.Idx) : Dev nD := ⟨(i 0).val / 256, by have h : (i 0).val < 4096 := (i 0).isLt; show _ < 16; omega⟩
set_option backward.proofsInPublic true in
def rowIdx (i : S4096x512.Idx) : S256x512.Idx := fun a => match a with
  | ⟨0, _⟩ => ⟨(i 0).val % 256, Nat.mod_lt _ (by decide)⟩
  | ⟨1, _⟩ => ⟨(i 1).val, (i 1).isLt⟩

/-- How many places back of `c` the device `s ≠ c` is, less one. -/
def back (c s : Dev nD) : Fin 15 := ⟨((c.val + (15 - s.val)) % 16) % 15, Nat.mod_lt _ (by decide)⟩
theorem back_bwd (c : Dev nD) (r : Fin 15) : back c (bwd c r.succ) = r := by revert c r; decide +kernel

/-- Row block `s` of the result on device `c`. -/
def blkAt (c s : Dev nD) : FVec F S256x512 .f32 := if s = c then ownBlk m c else arrBlk m c (back c s)
theorem blkAt_own (c : Dev nD) : blkAt m c c = ownBlk m c := if_pos rfl
theorem blkAt_bwd (c : Dev nD) (r : Fin 15) : blkAt m c (bwd c r.succ) = arrBlk m c r := by
  unfold blkAt; rw [if_neg (bwd_ne c r), back_bwd]

/-- The result on device `c`. -/
def outAt (c : Dev nD) : (cc0_stg3_0 : Ref sig .tc).ty.Contents (Elt F) := fun i => blkAt m c (rowDev i) (rowIdx i)

/-- The result's row blocks of the devices in `D` are in place. -/
def Done (c : Dev nD) (D : Finset (Dev nD)) (f : (cc0_stg3_0 : Ref sig .tc).ty.Contents (Elt F)) : Prop :=
  ∀ i, rowDev i ∈ D → f i = outAt m c i

/-- Storing one more row block. -/
theorem done_store (c s : Dev nD) (D : Finset (Dev nD)) (off : Fin 2 → ℕ) (hoff : off = ![256 * s.val, 0])
    (inb : ∀ a, off a + S256x512.size a ≤ S4096x512.size a) (f : (cc0_stg3_0 : Ref sig .tc).ty.Contents (Elt F)) (h : Done m c D f) :
    Done m c (insert s D) ((oM.access (Rect.unit (s := S4096x512) off S256x512.size inb)).write (Elt F) f (blkAt m c s) Finset.univ) := by
  subst hoff
  intro i hi
  by_cases hm : i ∈ (oM.access (Rect.unit (s := S4096x512) ![256 * s.val, 0] S256x512.size inb)).set
  · obtain ⟨y, rfl⟩ := View.exists_emb_of_mem_set _ hm
    have e : ((oM.access (Rect.unit (s := S4096x512) ![256 * s.val, 0] S256x512.size inb)).write (Elt F) f (blkAt m c s) Finset.univ)
        ((oM.access (Rect.unit (s := S4096x512) ![256 * s.val, 0] S256x512.size inb)).emb y) = blkAt m c s y :=
      View.write_emb_of_mem _ _ (Finset.mem_univ y)
    have e0 : (((oM.access (Rect.unit (s := S4096x512) ![256 * s.val, 0] S256x512.size inb)).emb y 0 : Fin _) : ℕ) = 256 * s.val + (y 0).val :=
      ValueKit.view_emb_slice_whole_unit_val cc0_stg3_0 _ _ _ y 0
    have e1 : (((oM.access (Rect.unit (s := S4096x512) ![256 * s.val, 0] S256x512.size inb)).emb y 1 : Fin _) : ℕ) = 0 + (y 1).val :=
      ValueKit.view_emb_slice_whole_unit_val cc0_stg3_0 _ _ _ y 1
    have hy0 : (y 0).val < 256 := (y 0).isLt
    have hd : rowDev ((oM.access (Rect.unit (s := S4096x512) ![256 * s.val, 0] S256x512.size inb)).emb y) = s :=
      Fin.ext (by show (_ : ℕ) / 256 = s.val; rw [e0]; omega)
    have hr : rowIdx ((oM.access (Rect.unit (s := S4096x512) ![256 * s.val, 0] S256x512.size inb)).emb y) = y :=
      Shape.idx_ext₂ (by show (_ : ℕ) % 256 = _; rw [e0]; omega) (e1.trans (Nat.zero_add _))
    rw [e]; unfold outAt; rw [hd, hr]
  · rw [View.write_of_not_mem _ _ _ hm]
    refine h i ((Finset.mem_insert.mp hi).resolve_left fun hs => hm ?_)
    rw [View.set_slice_whole, Rect.mem_set_unit]
    have h0 : (i 0).val / 256 = s.val := congrArg Fin.val hs
    have h1 : (i 1).val < 512 := (i 1).isLt
    intro a
    fin_cases a
    · show 256 * s.val ≤ (i 0).val ∧ (i 0).val < 256 * s.val + 256; omega
    · show 0 ≤ (i 1).val ∧ (i 1).val < 0 + 512; omega

/-- The row blocks in place when the device's own and `n` arrived ones are stored. -/
def doneSet (c : Dev nD) (n : ℕ) : Finset (Dev nD) :=
  insert c ((Finset.univ.filter fun r : Fin 15 => r.val < n).image fun r => bwd c r.succ)

theorem done_zero (c : Dev nD) (f : (cc0_stg3_0 : Ref sig .tc).ty.Contents (Elt F)) : Done m c ∅ f := fun i hi => absurd hi (Finset.notMem_empty _)

theorem doneSet_zero (c : Dev nD) : doneSet c 0 = {c} := by
  unfold doneSet; rw [Finset.filter_false_of_mem (fun _ _ => Nat.not_lt_zero _), Finset.image_empty]; rfl

theorem doneSet_succ (c : Dev nD) (r : Fin 15) : doneSet c (r.val + 1) = insert (bwd c r.succ) (doneSet c r.val) := by
  unfold doneSet
  rw [Finset.insert_comm, ← Finset.image_insert (fun r : Fin 15 => bwd c r.succ)]
  congr 2
  ext x
  simp only [Finset.mem_filter, Finset.mem_univ, true_and, Finset.mem_insert, Fin.ext_iff]
  omega

theorem done_all (c : Dev nD) (f : (cc0_stg3_0 : Ref sig .tc).ty.Contents (Elt F)) (h : Done m c (doneSet c 15) f) : f = outAt m c :=
  funext fun i => h i (by
    unfold doneSet
    rcases dev_cases c (rowDev i) with e | ⟨r, e⟩
    · rw [e]; exact Finset.mem_insert_self _ _
    · rw [e]; exact Finset.mem_insert_of_mem (Finset.mem_image_of_mem _ (Finset.mem_filter.mpr ⟨Finset.mem_univ _, r.isLt⟩)))

end Cert.KProof
-- ==== Proof.Proto.lean ====
/-
The protocol of the launch: which cells there are, who pays what into them, what each device owes, and the levels.
-/
module

public import proofs.«01_k».proof.Proof.Vals
public import Idealize.ShloMosaic.Lib.Transfers

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the local copies. -/
abbrev EC : UEmb Counters (MT nD τ sig Unit (Elt F) ℕ UU ℕ) := countersEmb

variable (m : (ℓ : Loc nD τ sig) → Buf (Elt F) ℓ) (ρ : Dev nD → PrngReg)

/-- The memory at launch. -/
def s₀ : MemSt nD τ sig (Elt F) := ⟨m, fun _ => 0, ρ⟩

abbrev 𝒱₀ : Variants := Variants.none

/-! ## The cells -/

abbrev barCell (c : Dev nD) : GSem nD τ sig := ((c : Thread nD τ), .reg barS)
abbrev sCell (c : Dev nD) (j : Fin 16) : GSem nD τ sig := ((c : Thread nD τ), .dma (sSem j))
abbrev rCell (c : Dev nD) (j : Fin 16) : GSem nD τ sig := ((c : Thread nD τ), .dma (rSem j))
abbrev wCell (c : Dev nD) (s : Fin 3) : GSem nD τ sig := ((c : Thread nD τ), .dma (wSem s))

/-- One cell of the exchange on each device: the barrier, a send, a receive. -/
abbrev KIx : Type := Unit ⊕ (Fin 15 ⊕ Fin 15)
abbrev csem : KIx → SemLoc sig
  | .inl _ => .reg barS
  | .inr (.inl i) => .dma (sSem i.succ)
  | .inr (.inr i) => .dma (rSem i.succ)
abbrev kcell (ck : Dev nD × KIx) : GSem nD τ sig := ((ck.1 : Thread nD τ), csem ck.2)

theorem sSem_inj (i j : Fin 16) (h : (SemLoc.dma (sSem i) : SemLoc sig) = .dma (sSem j)) : i = j := by revert i j; decide
theorem rSem_inj (i j : Fin 16) (h : (SemLoc.dma (rSem i) : SemLoc sig) = .dma (rSem j)) : i = j := by revert i j; decide
theorem s_ne_r (i j : Fin 16) : (SemLoc.dma (sSem i) : SemLoc sig) ≠ .dma (rSem j) := by revert i j; decide
theorem s_ne_bar (i : Fin 16) : (SemLoc.dma (sSem i) : SemLoc sig) ≠ .reg barS := fun h => by cases h
theorem r_ne_bar (i : Fin 16) : (SemLoc.dma (rSem i) : SemLoc sig) ≠ .reg barS := fun h => by cases h
theorem w_ne_r (s : Fin 3) (j : Fin 16) : (SemLoc.dma (wSem s) : SemLoc sig) ≠ .dma (rSem j) := by revert s j; decide

theorem csem_injective : Function.Injective csem := by decide
theorem kcell_injective : Function.Injective (kcell : Dev nD × KIx → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

/-- The credit of one slab. -/
def N : ℕ := (rSlab 0).view.dmaCredit
theorem N_pos : 0 < N := View.dmaCredit_pos _ (by decide)
theorem N_slab (j : Fin 16) : (rSlab j).view.dmaCredit = N := rfl
theorem N_sslab (j : Fin 16) : (sSlab j).view.dmaCredit = N := rfl

/-! ## What the cells hand over -/

/-- Slab `j` of the receive buffer, and of the send buffer, of device `c`. -/
def rPts (c : Dev nD) (j : Fin 16) (f : Buf (Elt F) ((c : Thread nD τ).loc cc0_scratch4)) : sProp 𝕄 :=
  ((c : Thread nD τ).loc cc0_scratch4) ↦[(slabR j).set]{fullShare} f
def sPts (c : Dev nD) (j : Fin 16) (f : Buf (Elt F) ((c : Thread nD τ).loc cc0_scratch3)) : sProp 𝕄 :=
  ((c : Thread nD τ).loc cc0_scratch3) ↦[(slabR j).set]{fullShare} f

omit [FloatOps F] in
theorem rPts_view (c : Dev nD) (j : Fin 16) (f : Buf (Elt F) ((c : Thread nD τ).loc cc0_scratch4)) :
    (rPts c j f : sProp 𝕄) = ((rSlab j).view.loc (c : Thread nD τ) ↦[(rSlab j).view.set]{fullShare} f) := by
  rw [rSlab_set]; rfl
omit [FloatOps F] in
theorem sPts_view (c : Dev nD) (j : Fin 16) (f : Buf (Elt F) ((c : Thread nD τ).loc cc0_scratch3)) :
    (sPts c j f : sProp 𝕄) = ((sSlab j).view.loc (c : Thread nD τ) ↦[(sSlab j).view.set]{fullShare} f) := by
  rw [sSlab_set]; rfl

omit [FloatOps F] in
instance rPts_storable (c : Dev nD) (j : Fin 16) (f) : BI.Storable (upEmb : UEmb _ 𝕄) (rPts (F := F) c j f) := by unfold rPts; infer_instance
omit [FloatOps F] in
instance sPts_storable (c : Dev nD) (j : Fin 16) (f) : BI.Storable (upEmb : UEmb _ 𝕄) (sPts (F := F) c j f) := by unfold sPts; infer_instance

/-- The signal of the device `d + 1` places on brings its slab `d + 1`, to be written by this device. -/
def barPay (c : Dev nD) (d : Fin 15) : sProp 𝕄 := iprop(∃ f, rPts (fwd c d.succ) d.succ f)
/-- A send gives its slab back; -/
def sendPay (c : Dev nD) (d : Fin 15) : sProp 𝕄 := iprop(∃ f, sPts c d.succ f)
/-- an arrival hands over the slab with the sender's block in it. -/
def recvPay (c : Dev nD) (d : Fin 15) : sProp 𝕄 :=
  iprop(∃ f, ⌜rM.view.readAt (Elt F) (slabR d.succ).toLoadRect f = chunk m (bwd c d.succ) d.succ⌝ ∗ rPts c d.succ f)

/-- One round. Duty `d` of a barrier cell is a unit; a send or receive cell of index `d + 1` has the duty `d` of a slab's credit. -/
def ringRd : Rounds.Schedule (GSem nD τ sig) (Fin 15) 𝕄 where
  duties g r := if r = 0 ∧ g.1.2 = .tc then
      (if g.2 = .reg barS then Finset.univ else Finset.univ.filter fun d : Fin 15 => g.2 = .dma (rSem d.succ) ∨ g.2 = .dma (sSem d.succ))
    else ∅
  unitless _ := False
  amount g _ _ := if g.2 = .reg barS then 1 else N
  payload g _ d :=
    if g.2 = .reg barS then barPay g.1.1 d
    else if g.2 = .dma (rSem d.succ) then recvPay m g.1.1 d
    else sendPay g.1.1 d
  amount_pos g _ _ _ := by
    by_cases h : g.2 = .reg barS
    · rw [if_pos h]; exact Nat.one_pos
    · rw [if_neg h]; exact N_pos

instance ringRd_payload_storable (g : GSem nD τ sig) (r : ℕ) (d : Fin 15) :
    BI.Storable (upEmb : UEmb _ 𝕄) ((ringRd (F := F) m).payload g r d) := by
  show BI.Storable upEmb (if g.2 = .reg barS then barPay g.1.1 d else if g.2 = .dma (rSem d.succ) then recvPay m g.1.1 d else sendPay g.1.1 d)
  unfold barPay recvPay sendPay
  (repeat' split) <;> infer_instance

section Sched
variable (c : Dev nD)

theorem duties_bar : (ringRd m).duties (barCell c) 0 = Finset.univ := by
  dsimp only [ringRd]; rw [if_pos ⟨rfl, rfl⟩, if_pos rfl]
theorem duties_send (i : Fin 15) : (ringRd m).duties (sCell c i.succ) 0 = {i} := by
  dsimp only [ringRd]; rw [if_pos ⟨rfl, rfl⟩, if_neg (s_ne_bar _)]
  ext d; rw [Finset.mem_filter, Finset.mem_singleton]
  exact ⟨fun h => h.2.elim (fun e => absurd e (s_ne_r _ _)) fun e => (Fin.succ_inj.mp (sSem_inj _ _ e)).symm,
    fun h => h ▸ ⟨Finset.mem_univ _, .inr rfl⟩⟩
theorem duties_recv (i : Fin 15) : (ringRd m).duties (rCell c i.succ) 0 = {i} := by
  dsimp only [ringRd]; rw [if_pos ⟨rfl, rfl⟩, if_neg (r_ne_bar _)]
  ext d; rw [Finset.mem_filter, Finset.mem_singleton]
  exact ⟨fun h => h.2.elim (fun e => (Fin.succ_inj.mp (rSem_inj _ _ e)).symm) fun e => absurd e.symm (s_ne_r _ _),
    fun h => h ▸ ⟨Finset.mem_univ _, .inl rfl⟩⟩
theorem duties_later (g : GSem nD τ sig) : ∀ r, 0 + 1 ≤ r → (ringRd m).duties g r = ∅ :=
  fun r hr => by dsimp only [ringRd]; exact if_neg fun h => by omega

theorem amount_bar (d : Fin 15) : (ringRd m).amount (barCell c) 0 d = 1 := by dsimp only [ringRd]; exact if_pos rfl
theorem amount_send (i : Fin 16) (d : Fin 15) : (ringRd m).amount (sCell c i) 0 d = N := by dsimp only [ringRd]; exact if_neg (s_ne_bar i)
theorem amount_recv (i : Fin 16) (d : Fin 15) : (ringRd m).amount (rCell c i) 0 d = N := by dsimp only [ringRd]; exact if_neg (r_ne_bar i)

theorem expect_bar : (ringRd m).expect (barCell c) 0 = 15 := by
  unfold Schedule.expect Schedule.amountOf
  rw [duties_bar, Finset.sum_congr rfl fun d _ => amount_bar m c d, Finset.sum_const, Finset.card_univ, Fintype.card_fin, smul_eq_mul]
theorem expect_send (i : Fin 15) : (ringRd m).expect (sCell c i.succ) 0 = N := by
  unfold Schedule.expect Schedule.amountOf; rw [duties_send, Finset.sum_singleton, amount_send]
theorem expect_recv (i : Fin 15) : (ringRd m).expect (rCell c i.succ) 0 = N := by
  unfold Schedule.expect Schedule.amountOf; rw [duties_recv, Finset.sum_singleton, amount_recv]

theorem payload_bar (d : Fin 15) : (ringRd m).payload (barCell c) 0 d = barPay c d := by dsimp only [ringRd]; exact if_pos rfl
theorem payload_send (i : Fin 15) : (ringRd m).payload (sCell c i.succ) 0 i = sendPay c i := by
  dsimp only [ringRd]; rw [if_neg (s_ne_bar _), if_neg (s_ne_r _ _)]
theorem payload_recv (i : Fin 15) : (ringRd m).payload (rCell c i.succ) 0 i = recvPay m c i := by
  dsimp only [ringRd]; rw [if_neg (r_ne_bar _), if_pos rfl]

theorem rest_bar : bigSep ((ringRd m).duties (barCell c) 0 \ ∅) (fun d => (ringRd m).payload (barCell c) 0 d)
    = bigSep Finset.univ fun d : Fin 15 => (barPay c d : sProp 𝕄) := by
  rw [Finset.sdiff_empty, duties_bar]; exact bigSep_congr fun d _ => payload_bar m c d
theorem rest_send (i : Fin 15) : bigSep ((ringRd m).duties (sCell c i.succ) 0 \ ∅) (fun d => (ringRd m).payload (sCell c i.succ) 0 d)
    = (sendPay c i : sProp 𝕄) := by
  rw [Finset.sdiff_empty, duties_send, bigSep_singleton, payload_send]
theorem rest_recv (i : Fin 15) : bigSep ((ringRd m).duties (rCell c i.succ) 0 \ ∅) (fun d => (ringRd m).payload (rCell c i.succ) 0 d)
    = recvPay m c i := by
  rw [Finset.sdiff_empty, duties_recv, bigSep_singleton, payload_recv]

end Sched

/-! ## What a device owes -/

/-- What is left of fifteen dues after the first `n`. -/
def dues (o : Fin 15 → CellTallies nD τ sig Unit) (n : ℕ) : CellTallies nD τ sig Unit :=
  ∑ x : Fin 15, if x.val < n then 0 else o x

theorem dues_step (o : Fin 15 → CellTallies nD τ sig Unit) (i : Fin 15) : dues o i.val = dues o (i.val + 1) + o i := by
  unfold dues
  rw [← Finset.add_sum_erase _ _ (Finset.mem_univ i), ← Finset.add_sum_erase Finset.univ (fun x : Fin 15 => if x.val < i.val + 1 then 0 else o x) (Finset.mem_univ i),
    if_neg (Nat.lt_irrefl _), if_pos (Nat.lt_succ_self _), zero_add, add_comm]
  congr 1
  refine Finset.sum_congr rfl fun x hx => ?_
  have hne : x.val ≠ i.val := fun h => (Finset.mem_erase.mp hx).1 (Fin.ext h)
  by_cases h : x.val < i.val
  · rw [if_pos h, if_pos (by omega)]
  · rw [if_neg h, if_neg (by omega)]

theorem dues_end (o : Fin 15 → CellTallies nD τ sig Unit) : dues o 15 = 0 :=
  Finset.sum_eq_zero fun x _ => if_pos x.isLt

theorem dues_apply (o : Fin 15 → CellTallies nD τ sig Unit) (n : ℕ) (g : GSem nD τ sig) (u : Unit) :
    dues o n g u = ∑ x : Fin 15, if x.val < n then 0 else o x g u := by
  unfold dues
  rw [Finset.sum_apply, Finsupp.finset_sum_apply]
  refine Finset.sum_congr rfl fun x _ => ?_
  split <;> rfl

theorem dues_pos {o : Fin 15 → CellTallies nD τ sig Unit} {n : ℕ} {g : GSem nD τ sig} {u : Unit} (h : 0 < dues o n g u) :
    ∃ x, 0 < o x g u := by
  rw [dues_apply] at h
  obtain ⟨x, _, hx⟩ := Finset.exists_ne_zero_of_sum_ne_zero h.ne'
  refine ⟨x, Nat.pos_of_ne_zero fun h0 => hx ?_⟩
  split
  · rfl
  · exact h0

/-- The credit of the block of send `t`, at its receiver; the unit of signal `i`. -/
def oR (c : Dev nD) (t : Fin 15) : CellTallies nD τ sig Unit := tallyAt (rCell (fwd c (ord t).succ) (ord t).succ) () N
def oB (c : Dev nD) (i : Fin 15) : CellTallies nD τ sig Unit := tallyAt (barCell (fwd c i.succ)) () 1

def O₀ (c : Dev nD) : CellTallies nD τ sig Unit := dues (oR c) 0 + dues (oB c) 0

theorem oR_pos {c : Dev nD} {n : ℕ} {g : GSem nD τ sig} {u : Unit} (h : 0 < dues (oR c) n g u) : ∃ (c' : Dev nD) (j : Fin 15), g = rCell c' j.succ := by
  obtain ⟨x, hx⟩ := dues_pos h
  unfold oR at hx; rw [tallyAt_apply] at hx
  by_cases h' : g = rCell (fwd c (ord x).succ) (ord x).succ ∧ u = ()
  · exact ⟨_, _, h'.1⟩
  · rw [if_neg h'] at hx; exact absurd hx (Nat.lt_irrefl 0)
theorem oB_pos {c : Dev nD} {n : ℕ} {g : GSem nD τ sig} {u : Unit} (h : 0 < dues (oB c) n g u) : ∃ c' : Dev nD, g = barCell c' := by
  obtain ⟨x, hx⟩ := dues_pos h
  unfold oB at hx; rw [tallyAt_apply] at hx
  by_cases h' : g = barCell (fwd c x.succ) ∧ u = ()
  · exact ⟨_, h'.1⟩
  · rw [if_neg h'] at hx; exact absurd hx (Nat.lt_irrefl 0)

/-! ## The levels: barriers at 1, receives at 2, the rest at 0 -/

def L (g : GSem nD τ sig) : Finset Unit := if g.1.2 = .tc then {()} else ∅
def lv (g : GSem nD τ sig) (_ : Unit) : ℕ := if g.2 = .reg barS then 1 else if ∃ j : Fin 15, g.2 = .dma (rSem j.succ) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 15) (u : Unit) : lv (rCell c j.succ) u = 2 := by
  unfold lv; rw [if_neg (r_ne_bar _), if_pos ⟨j, rfl⟩]
theorem lv_dma (c : Dev nD) (q : DmaSem sig) (hq : ∀ j : Fin 15, SemLoc.dma q ≠ .dma (rSem j.succ)) (u : Unit) :
    lv ((c : Thread nD τ), .dma q) u = 0 := by
  unfold lv; rw [if_neg (fun h => by cases h), if_neg fun ⟨j, hj⟩ => hq j hj]

/-- A wait below everything owed. -/
theorem mayWait_cut (c : Dev nD) (sm : SemLoc sig) (cut : ℕ) (hs : ∀ u, lv ((c : Thread nD τ), sm) u ≤ cut) (O : CellTallies nD τ sig Unit)
    (hO : ∀ g u, 0 < O g u → g.1.2 = .tc ∧ cut < lv g u) : (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs _)
    (fun g u hg => (hO g u hg).2)

/-- A DMA wait at level 0, owing blocks only; -/
theorem mayWait_dues (c : Dev nD) (q : DmaSem sig) (hq : ∀ j : Fin 15, SemLoc.dma q ≠ .dma (rSem j.succ)) (n : ℕ) :
    (levAts L lv : sProp 𝕄) ⊢ MayWait (c : Thread nD τ) (.dma q) () (dues (oR c) n) :=
  mayWait_cut c _ 0 (fun u => (lv_dma c q hq u).le) _ fun g u h => by
    obtain ⟨c', j, rfl⟩ := oR_pos h
    exact ⟨rfl, by rw [lv_recv]; decide⟩
/-- the same at launch; -/
theorem mayWait_launch (c : Dev nD) (q : DmaSem sig) (hq : ∀ j : Fin 15, SemLoc.dma q ≠ .dma (rSem j.succ)) :
    (levAts L lv : sProp 𝕄) ⊢ MayWait (c : Thread nD τ) (.dma q) () (O₀ c) :=
  mayWait_cut c _ 0 (fun u => (lv_dma c q hq u).le) _ fun g u h => by
    unfold O₀ at h; rw [Pi.add_apply, Finsupp.add_apply] at h
    rcases Nat.eq_zero_or_pos (dues (oR c) 0 g u) with h0 | h0
    · rw [h0, Nat.zero_add] at h
      obtain ⟨c', rfl⟩ := oB_pos h
      exact ⟨rfl, by rw [lv_bar]; decide⟩
    · obtain ⟨c', j, rfl⟩ := oR_pos h0
      exact ⟨rfl, by rw [lv_recv]; decide⟩
/-- the barrier wait, owing blocks only. -/
theorem mayWait_bar (c : Dev nD) : (levAts L lv : sProp 𝕄) ⊢ MayWait (c : Thread nD τ) (.reg barS) () (dues (oR c) 0) :=
  mayWait_cut c _ 1 (fun u => (lv_bar c u).le) _ fun g u h => by
    obtain ⟨c', j, rfl⟩ := oR_pos h
    exact ⟨rfl, by rw [lv_recv]; decide⟩

/-! ## The launch's persistent facts -/

/-- Every cell's invariant, at the names `K`, and that its round is open. -/
def records (K : Dev nD × KIx → ℕ) : sProp 𝕄 :=
  iprop((bigSep Finset.univ fun ck : Dev nD × KIx => cellInv ER (ringRd m) (K ck) (kcell ck))
    ∗ bigSep Finset.univ fun ck : Dev nD × KIx => reached ER (kcell ck) 0)

instance records_persistent (K : Dev nD × KIx → ℕ) : BI.Persistent (records m K) := by unfold records; infer_instance

theorem inv_at (K : Dev nD × KIx → ℕ) (ck : Dev nD × KIx) : records m K ⊢ cellInv ER (ringRd m) (K ck) (kcell ck) := by
  unfold records
  exact sep_elim_left.trans (bigSep_elim (Φ := fun ck : Dev nD × KIx => (cellInv ER (ringRd m) (K ck) (kcell ck) : sProp 𝕄)) (Finset.mem_univ ck))
theorem reached_at (K : Dev nD × KIx → ℕ) (ck : Dev nD × KIx) : records m K ⊢ reached ER (kcell ck) 0 := by
  unfold records
  exact sep_elim_right.trans (bigSep_elim (Φ := fun ck : Dev nD × KIx => (reached ER (kcell ck) 0 : sProp 𝕄)) (Finset.mem_univ ck))

end Cert.KProof
-- ==== Proof.Steps.lean ====
/-
The steps of the body, each run once: for any device, and for any number of the step.
-/
module

public import proofs.«01_k».proof.Proof.Proto

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program `p` on device `c` runs to `Q`. -/
abbrev WP (c : Dev nD) (p : KP F) (Q : PUnit → sProp 𝕄) : sProp 𝕄 :=
  wp frame (wpE (defs₀ (F := F)) 𝒱₀ (c : Thread nD τ) none) Set.univ p Q

/-! ## Repetition -/

/-- Steps that each take the state `I i` to `I (i + 1)`, repeated. -/
theorem chain_loop (c : Dev nD) {Q : PUnit → sProp 𝕄} (P : sProp 𝕄) [BI.Persistent P] (step : ℕ → KP F → KP F) (I : ℕ → sProp 𝕄) :
    ∀ (n a : ℕ), (∀ i, a ≤ i → i < a + n → ∀ k, iprop(P ∗ I i) ⊢ iprop((I (i + 1) -∗ WP c k Q) -∗ WP c (step i k) Q)) →
      ∀ k, iprop(P ∗ I a) ⊢ iprop((I (a + n) -∗ WP c k Q) -∗ WP c (chain step n a k) Q)
  | 0, a, _, k => by
    show iprop(P ∗ I a) ⊢ iprop((I a -∗ WP c k Q) -∗ WP c k Q)
    iintro ⟨-, HI⟩ Hk
    iapply Hk
    iexact HI
  | n + 1, a, h, k => by
    show iprop(P ∗ I a) ⊢ iprop((I (a + (n + 1)) -∗ WP c k Q) -∗ WP c (step a (chain step n (a + 1) k)) Q)
    iintro ⟨#HP, HI⟩ Hk
    iapply (h a le_rfl (by omega) (chain step n (a + 1) k)) $$ [HI]
    · isplitr; · iexact HP
      iexact HI
    iintro HI
    iapply (chain_loop c P step I n (a + 1) (fun i h1 h2 => h i (by omega) (by omega)) k) $$ [HI]
    · isplitr; · iexact HP
      iexact HI
    rw [show a + 1 + n = a + (n + 1) from by omega]
    iexact Hk

/-- Fifteen resources, the first `i` of them already used: `Ψ` in place of `Φ`. -/
def fam (Φ Ψ : Fin 15 → sProp 𝕄) (i : ℕ) : sProp 𝕄 := bigSep Finset.univ fun x : Fin 15 => if x.val < i then Ψ x else Φ x

omit [FloatOps F] in
theorem fam_start (Φ Ψ : Fin 15 → sProp 𝕄) : fam Φ Ψ 0 = bigSep Finset.univ Φ :=
  bigSep_congr fun x _ => if_neg (Nat.not_lt_zero _)
omit [FloatOps F] in
theorem fam_end (Φ Ψ : Fin 15 → sProp 𝕄) : fam Φ Ψ 15 = bigSep Finset.univ Ψ :=
  bigSep_congr fun x _ => if_pos x.isLt
omit [FloatOps F] in
theorem fam_step (Φ Ψ : Fin 15 → sProp 𝕄) (i : Fin 15) : fam Φ Ψ i.val ⊢ iprop(Φ i ∗ (Ψ i -∗ fam Φ Ψ (i.val + 1))) := by
  have e : bigSep (Finset.univ.erase i) (fun x : Fin 15 => if x.val < i.val then Ψ x else Φ x)
      = bigSep (Finset.univ.erase i) (fun x : Fin 15 => if x.val < i.val + 1 then Ψ x else Φ x) :=
    bigSep_congr fun x hx => by
      have hne : x.val ≠ i.val := fun h => (Finset.mem_erase.mp hx).1 (Fin.ext h)
      by_cases h : x.val < i.val
      · rw [if_pos h, if_pos (by omega)]
      · rw [if_neg h, if_neg (by omega)]
  have sp (Θ : Fin 15 → sProp 𝕄) : bigSep Finset.univ Θ = iprop(Θ i ∗ bigSep (Finset.univ.erase i) Θ) := BI.bigSep_univ_split i
  have e1 := sp fun x : Fin 15 => if x.val < i.val then Ψ x else Φ x
  have e2 := sp fun x : Fin 15 => if x.val < i.val + 1 then Ψ x else Φ x
  rw [if_neg (Nat.lt_irrefl _), e] at e1
  rw [if_pos (Nat.lt_succ_self _)] at e2
  unfold fam
  rw [e1, e2]
  iintro ⟨H1, H2⟩
  isplitl [H1]; · iexact H1
  iintro H3
  isplitl [H3] <;> iassumption

/-! ## The state -/

/-- What the device owes, whatever its waits so far. -/
def owing (c : Dev nD) (O : CellTallies nD τ sig Unit) : sProp 𝕄 := iprop(∃ W, owes (c : Thread nD τ) O W)

/-- The facts every step may use. -/
def known (K : Dev nD × KIx → ℕ) : sProp 𝕄 := iprop(records m K ∗ levAts L lv)
instance known_persistent (K : Dev nD × KIx → ℕ) : BI.Persistent (known m K) := by unfold known; infer_instance

theorem known_inv (K : Dev nD × KIx → ℕ) (ck : Dev nD × KIx) : known m K ⊢ cellInv ER (ringRd m) (K ck) (kcell ck) := by
  unfold known; exact sep_elim_left.trans (inv_at m K ck)
theorem known_reached (K : Dev nD × KIx → ℕ) (ck : Dev nD × KIx) : known m K ⊢ reached ER (kcell ck) 0 := by
  unfold known; exact sep_elim_left.trans (reached_at m K ck)
theorem known_wait_bar (K : Dev nD × KIx → ℕ) (c : Dev nD) :
    known m K ⊢ MayWait (c : Thread nD τ) (.reg barS) () (dues (oR c) 0) := by
  unfold known; exact sep_elim_right.trans (mayWait_bar c)
theorem known_wait (K : Dev nD × KIx → ℕ) (c : Dev nD) (q : DmaSem sig) (hq : ∀ j : Fin 15, SemLoc.dma q ≠ .dma (rSem j.succ)) (n : ℕ) :
    known m K ⊢ MayWait (c : Thread nD τ) (.dma q) () (dues (oR c) n) := by
  unfold known; exact sep_elim_right.trans (mayWait_dues c q hq n)

variable (K : Dev nD × KIx → ℕ)

/-! ## The signals -/

/-- For signal `i`: the token of the duty it pays and the slab it hands over. -/
def sigRes (c : Dev nD) (x : Fin 15) : sProp 𝕄 :=
  iprop(dutyTok ER (barCell (fwd c x.succ)) 0 x.rev ∗ barPay (fwd c x.succ) x.rev)
def sigSt (c : Dev nD) (i : ℕ) : sProp 𝕄 :=
  iprop(owing c (dues (oR c) 0 + dues (oB c) i) ∗ fam (sigRes c) (fun _ => iprop(emp)) i)

theorem wp_sig (c : Dev nD) (i : ℕ) (hi : i < 15) (k : KP F) {Q : PUnit → sProp 𝕄} :
    iprop(known m K ∗ sigSt c i) ⊢ iprop((sigSt c (i + 1) -∗ WP c k Q) -∗ WP c (sigStep c i k) Q) := by
  obtain ⟨i, rfl⟩ : ∃ x : Fin 15, x.val = i := ⟨⟨i, hi⟩, rfl⟩
  unfold sigStep sigSt owing
  rw [sigDev_eq]
  iintro ⟨#Hf, ⟨%W, HO⟩, Hfam⟩ Hk
  ihave H := (fam_step (sigRes (F := F) c) (fun _ => iprop(emp)) i) $$ Hfam
  icases H with ⟨Hx, Hfam⟩
  unfold sigRes
  icases Hx with ⟨Htok, Hpay⟩
  iapply (Rounds.wp_signal 𝒱₀ ER (ringRd m) (c : Thread nD τ) none (dst := (fwd c i.succ : Thread nD τ)) (κ := K (fwd c i.succ, .inl ()))
      (d := i.rev) (by rw [duties_bar]; exact Finset.mem_univ _) ((amount_bar m (fwd c i.succ) i.rev).trans (by decide)) ()
      (O₀ := dues (oR c) 0 + dues (oB c) i.val) (dues (oR c) 0 + dues (oB c) (i.val + 1)) (by rw [dues_step (oB c) i, add_assoc]; rfl)) $$ [HO Htok Hpay]
  · isplitr; · iapply (known_inv m K (fwd c i.succ, .inl ())); iexact Hf
    isplitl [HO]; · iexact HO
    isplitl [Htok]; · iexact Htok
    isplitl [Hpay]; · rw [payload_bar]; iexact Hpay
    iapply (known_reached m K (fwd c i.succ, .inl ())); iexact Hf
  iintro HO
  iapply Hk
  isplitl [HO]; · iexists W; iexact HO
  iapply Hfam; iempintro

/-- The wait on the barrier: the slabs of the fifteen partners. -/
theorem wp_bar (c : Dev nD) (k : PUnit → KP F) {Q : PUnit → sProp 𝕄} :
    iprop(known m K ∗ owing c (dues (oR c) 0) ∗ cred (tallyAt (barCell c) () 15) ∗ atPos ER (barCell c) 0 ∅ 0)
      ⊢ iprop((iprop(owing c (dues (oR c) 0) ∗ (bigSep Finset.univ fun d : Fin 15 => barPay c d) ∗ semVal (barCell c) 0) -∗ WP c (k ⟨⟩) Q)
        -∗ WP c (.op (.semWait barS (15#32 : BitVec 32).toInt) k) Q) := by
  unfold owing
  iintro ⟨#Hf, ⟨%W, HO⟩, Hc, Hat⟩ Hk
  iapply (Rounds.wp_wait_rest_token 𝒱₀ ER (ringRd m) (c : Thread nD τ) none (κ := K (c, .inl ()))
      (wpE_semWait_eq 𝒱₀ (c : Thread nD τ) none Set.univ) (Set.mem_univ _) () (O := dues (oR c) 0) (W := W) (R := 0) (m := 0) (T := ∅)
      (by rw [expect_bar]; decide)) $$ [Hc HO Hat]
  · isplitr; · iapply (known_inv m K (c, .inl ())); iexact Hf
    isplitl [Hc]; · iexact Hc
    isplitl [HO]; · iexact HO
    isplitr; · iapply (known_wait_bar m K c); iexact Hf
    iexact Hat
  iintro ⟨HO, Hat, -, Hpay⟩
  ihave Hp := (Entails.of_eq (rest_bar m c)) $$ Hpay
  imod (Rounds.cell_close ER (ringRd m) (Set.mem_univ (K (c, .inl ()))) (fun h => h) (R := 0 + 1) (duties_later m (barCell c))) $$ [Hat] with Hz
  · isplitr; · iapply (known_inv m K (c, .inl ())); iexact Hf
    iexact Hat
  iapply Hk
  isplitl [HO]; · iexists _; iexact HO
  isplitl [Hp] <;> iassumption

/-! ## The weight copies -/

def NW : ℕ := (wDst 0).view.dmaCredit
theorem NW_pos : 0 < NW := View.dmaCredit_pos _ (by decide)
theorem NW_slot (s : Fin 3) : (wDst s).view.dmaCredit = NW := rfl

/-- The share of the weights that slot `s` reads with. -/
def wq (s : Fin 3) : PosShare TreeShare := Transfers.shareTok fullShare 3 s
/-- Slot `s` of the weight buffer, and slot `s`'s share of the weights. -/
def w3Pts (c : Dev nD) (s : Fin 3) (f : Buf (Elt F) ((c : Thread nD τ).loc cc0_scratch0)) : sProp 𝕄 :=
  ((c : Thread nD τ).loc cc0_scratch0) ↦[(slotR s).set]{fullShare} f
def argPts (c : Dev nD) (s : Fin 3) : sProp 𝕄 :=
  ((c : Thread nD τ).loc main_arg1) ↦{wq s} m ((c : Thread nD τ).loc main_arg1)

omit [FloatOps F] in
theorem w3Pts_view (c : Dev nD) (s : Fin 3) (f : Buf (Elt F) ((c : Thread nD τ).loc cc0_scratch0)) :
    (w3Pts c s f : sProp 𝕄) = ((wDst s).view.loc (c : Thread nD τ) ↦[(wDst s).view.set]{fullShare} f) := by
  rw [wDst_set]; rfl

/-- Slot `s` idle: -/
def wFree (c : Dev nD) (s : Fin 3) : sProp 𝕄 := iprop((∃ f, w3Pts c s f) ∗ semVal (wCell c s) 0 ∗ argPts m c s)
/-- the weights for the partner `j` places on flying to it. -/
def wFly (c : Dev nD) (s : Fin 3) (j : Fin 16) : sProp 𝕄 :=
  iprop(∃ fd : Buf (Elt F) ((c : Thread nD τ).loc cc0_scratch0),
    Transfers.Flight EC (c : Thread nD τ) (.dma (wSem s)) () NW
      iprop(((wDst s).view.loc (c : Thread nD τ) ↦[(wDst s).view.set]{fullShare} ((wDst s).view.write (Elt F) fd (wAt m c j) Finset.univ))
        ∗ ((wSrc c j).view.loc (c : Thread nD τ) ↦[(wSrc c j).view.set]{wq s} m ((c : Thread nD τ).loc main_arg1)))
    ∗ ((c : Thread nD τ).loc main_arg1) ↦[Finset.univ \ (wSrc c j).view.set]{wq s} m ((c : Thread nD τ).loc main_arg1))

theorem wp_pre (c : Dev nD) (t : ℕ) (k : KP F) {Q : PUnit → sProp 𝕄} :
    wFree m c (slot t) ⊢ iprop((wFly m c (slot t) (order t) -∗ WP c k Q) -∗ WP c (preStep c t k) Q) := by
  unfold preStep wFree argPts
  iintro ⟨⟨%f, Hw⟩, Hv, Ha⟩ Hk
  ihave Hw' := (Entails.of_eq (w3Pts_view c (slot t) f)) $$ Hw
  ihave Ha' := (pointsTo_split_subset (Finset.subset_univ (wSrc c (order t)).view.set)).1 $$ Ha
  icases Ha' with ⟨Ha, Hrest⟩
  iapply (Transfers.wp_dmaLocal EC 𝒱₀ (c : Thread nD τ) none (src := wSrc c (order t)) (dst := wDst (slot t)) () NW (sm := .dma (wSem (slot t))) (NW_slot (slot t)) NW_pos (Finset.Subset.refl _)) $$ [Hw' Hv Ha]
  · isplitl [Ha]; · iexact Ha
    isplitl [Hw']; · iexact Hw'
    iexact Hv
  iintro Hfl
  iapply Hk
  unfold wFly
  iexists f
  isplitl [Hfl]; · iexact Hfl
  iexact Hrest

end Cert.KProof
-- ==== Proof.Runs.lean ====
/-
The stages of the body: the product, the send, the arrival; and their loops.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KIx → ℕ)

/-- The rounded rows of `x`, the rounded weights, and the result, each a whole buffer. -/
def xbPts (c : Dev nD) (f : Buf (Elt F) ((c : Thread nD τ).loc cc0_scratch1)) : sProp 𝕄 := ((c : Thread nD τ).loc cc0_scratch1) ↦{fullShare} f
def wbPts (c : Dev nD) (f : Buf (Elt F) ((c : Thread nD τ).loc cc0_scratch2)) : sProp 𝕄 := ((c : Thread nD τ).loc cc0_scratch2) ↦{fullShare} f
def outPts (c : Dev nD) (f : Buf (Elt F) ((c : Thread nD τ).loc cc0_stg3_0)) : sProp 𝕄 := ((c : Thread nD τ).loc cc0_stg3_0) ↦{fullShare} f

theorem hz : (![0, 0] : Fin 2 → ℕ) = fun _ => 0 := funext fun a => by fin_cases a <;> rfl
omit [FloatOps F] in
theorem read_xb (f : (cc0_scratch1 : Ref sig .tc).ty.Contents (Elt F)) : xbM.view.readAt (Elt F) xR.toLoadRect f = f :=
  Memref.readAt_unit_zero (Elt F) cc0_scratch1 hz _ f
omit [FloatOps F] in
theorem read_wb (f : (cc0_scratch2 : Ref sig .tc).ty.Contents (Elt F)) : wbM.view.readAt (Elt F) wbR.toLoadRect f = f :=
  Memref.readAt_unit_zero (Elt F) cc0_scratch2 hz _ f
omit [FloatOps F] in
theorem write_wb (f w : (cc0_scratch2 : Ref sig .tc).ty.Contents (Elt F)) :
    (wbM.access wbR).write (Elt F) f w Finset.univ = w := Memref.write_access_unit_zero_univ (Elt F) cc0_scratch2 hz _ f w

theorem setOn_slot (s : Fin 3) : w3M.view.setOn (slotR s).toLoadRect.set ⊆ (slotR s).set :=
  ((View.set_slice (View.whole cc0_scratch0) (slotR s)).symm.trans (View.set_slice_whole _ _)).subset
theorem setOn_slab (j : Fin 16) : sM.view.setOn (slabR j).toLoadRect.set ⊆ (slabR j).set :=
  ((View.set_slice (View.whole cc0_scratch3) (slabR j)).symm.trans (View.set_slice_whole _ _)).subset
theorem setOn_rslab (j : Fin 16) : rM.view.setOn (slabR j).toLoadRect.set ⊆ (slabR j).set :=
  ((View.set_slice (View.whole cc0_scratch4) (slabR j)).symm.trans (View.set_slice_whole _ _)).subset

/-- What a product needs and gives back, besides its weights. -/
def work (c : Dev nD) (n : ℕ) : sProp 𝕄 := iprop(owing c (dues (oR c) n) ∗ xbPts c (xbAt m c) ∗ ∃ f, wbPts c f)

theorem wp_mul (c : Dev nD) (t n : ℕ) (k : Vec F S256x4096 .bf16 → Vec F S4096x512 .bf16 → KP F) {Q : PUnit → sProp 𝕄} :
    iprop(known m K ∗ work m c n ∗ wFly m c (slot t) (order t))
      ⊢ iprop((iprop(work m c n ∗ wFree m c (slot t)) -∗ WP c (k (xbAt m c) (wbAt m c (order t))) Q) -∗ WP c (mulStep c t k) Q) := by
  unfold mulStep work owing wFly xbPts wbPts
  iintro ⟨#Hf, ⟨⟨%W, HO⟩, Hxb, ⟨%fw, Hwb⟩⟩, ⟨%fd, Hfl, Hrest⟩⟩ Hk
  iapply (Transfers.wp_waitLocalO EC 𝒱₀ (c : Thread nD τ) none (dstw := wDst (slot t)) () (NW_slot (slot t))) $$ [Hfl HO]
  · isplitl [Hfl]; · iexact Hfl
    isplitl [HO]; · iexact HO
    iapply (known_wait m K c (wSem (slot t)) (fun j => w_ne_r _ _) n); iexact Hf
  iintro ⟨⟨Hw, Ha⟩, Hv, HO⟩
  iapply (wp_load 𝒱₀ (c : Thread nD τ) none Set.univ (m := w3M) (r := (slotR (slot t)).toLoadRect) (S := (wDst (slot t)).view.set)
    (by rw [wDst_set]; exact setOn_slot (slot t))) $$ Hw
  iintro Hw
  rw [read_slot]
  iapply (wp_load 𝒱₀ (c : Thread nD τ) none Set.univ (m := wbM) (Finset.subset_univ _)) $$ Hwb
  iintro Hwb
  iapply (wp_store 𝒱₀ (c : Thread nD τ) none Set.univ (m := wbM) (r := wbR) (Mk := Finset.univ) (Finset.subset_univ _)) $$ Hwb
  iintro Hwb
  rw [write_wb]
  iapply (wp_load 𝒱₀ (c : Thread nD τ) none Set.univ (m := xbM) (Finset.subset_univ _)) $$ Hxb
  iintro Hxb
  rw [read_xb]
  iapply (wp_load 𝒱₀ (c : Thread nD τ) none Set.univ (m := wbM) (Finset.subset_univ _)) $$ Hwb
  iintro Hwb
  rw [read_wb]
  iapply Hk
  isplitl [HO Hxb Hwb]
  · isplitl [HO]; · iexists _; iexact HO
    isplitl [Hxb]; · iexact Hxb
    iexists _; iexact Hwb
  unfold wFree argPts
  isplitl [Hw]
  · iexists _; iapply (Entails.of_eq (w3Pts_view c (slot t) _).symm) $$ Hw
  isplitl [Hv]; · iexact Hv
  iapply (pointsTo_split_subset (Finset.subset_univ (wSrc c (order t)).view.set)).2
  isplitl [Ha]; · iexact Ha
  iexact Hrest

/-! ## The sends -/

/-- For stage `t`: its send slab, the partner's slab, and the tokens of the two duties; -/
def putRes (c : Dev nD) (t : Fin 15) : sProp 𝕄 :=
  iprop((∃ f, sPts c (order t.val) f) ∗ (∃ f, rPts (fwd c (order t.val)) (order t.val) f) ∗ dutyTok ER (sCell c (order t.val)) 0 (ord t)
    ∗ dutyTok ER (rCell (fwd c (order t.val)) (order t.val)) 0 (ord t))
/-- after it: the credit of its send. -/
def putCred (c : Dev nD) (t : Fin 15) : sProp 𝕄 := cred (tallyAt (sCell c (order t.val)) () N)

theorem pay_send (c : Dev nD) (j : Fin 16) (d : Fin 15) (hj : j = d.succ) (fs : Buf (Elt F) ((c : Thread nD τ).loc cc0_scratch3)) :
    ((sSlab j).view.loc (c : Thread nD τ) ↦[(sSlab j).view.set]{fullShare} fs : sProp 𝕄) ⊢ (ringRd m).payload (sCell c j) 0 d := by
  subst hj
  rw [payload_send, ← sPts_view]
  unfold sendPay
  iintro H
  iexists fs
  iexact H

theorem pay_recv (c : Dev nD) (j : Fin 16) (d : Fin 15) (hj : j = d.succ) (fr : Buf (Elt F) ((fwd c j : Thread nD τ).loc cc0_scratch4))
    (h : rM.view.readAt (Elt F) (slabR j).toLoadRect fr = chunk m c j) :
    ((rSlab j).view.loc (fwd c j : Thread nD τ) ↦[(rSlab j).view.set]{fullShare} fr : sProp 𝕄) ⊢ (ringRd m).payload (rCell (fwd c j) j) 0 d := by
  subst hj
  rw [payload_recv, ← rPts_view]
  unfold recvPay
  iintro H
  iexists fr
  isplitr
  · ipureintro; rw [bwd_fwd]; exact h
  · iexact H

theorem duty_send (c : Dev nD) (j : Fin 16) (d : Fin 15) (hj : j = d.succ) : d ∈ (ringRd m).duties (sCell c j) 0 := by
  subst hj; rw [duties_send]; exact Finset.mem_singleton_self _
theorem duty_recv (c : Dev nD) (j : Fin 16) (d : Fin 15) (hj : j = d.succ) : d ∈ (ringRd m).duties (rCell c j) 0 := by
  subst hj; rw [duties_recv]; exact Finset.mem_singleton_self _

theorem inv_send (c : Dev nD) (j : Fin 16) (d : Fin 15) (hj : j = d.succ) :
    known m K ⊢ cellInv ER (ringRd m) (K (c, .inr (.inl d))) (sCell c j) := by subst hj; exact known_inv m K (c, .inr (.inl d))
theorem inv_recv (c : Dev nD) (j : Fin 16) (d : Fin 15) (hj : j = d.succ) :
    known m K ⊢ cellInv ER (ringRd m) (K (c, .inr (.inr d))) (rCell c j) := by subst hj; exact known_inv m K (c, .inr (.inr d))
theorem reached_send (c : Dev nD) (j : Fin 16) (d : Fin 15) (hj : j = d.succ) :
    known m K ⊢ reached ER (sCell c j) 0 := by subst hj; exact known_reached m K (c, .inr (.inl d))
theorem reached_recv (c : Dev nD) (j : Fin 16) (d : Fin 15) (hj : j = d.succ) :
    known m K ⊢ reached ER (rCell c j) 0 := by subst hj; exact known_reached m K (c, .inr (.inr d))

/-- A send of slab `j` to the device `j` places on, which is `n`. -/
theorem wp_send_slab (c n : Dev nD) (j : Fin 16) (d : Fin 15) (hj : j = d.succ) (hn : n = fwd c j)
    {hsc : (rSlab j : Memref sig (Dev.tc n : Thread nD τ).2.kind .vmem S256x512 .bf16).view.ref.isScScratch = false}
    {hsrc : (sSlab j).view.WordExact} {hdst : (rSlab j).view.WordExact}
    {hsem : DmaTarget.Typed .vmem (.dma (rSem j)) (.remote (Dev.tc n : Thread nD τ) (rSlab j) (.dma (sSem j)) hsc)}
    {k : PUnit → KP F} {Q : PUnit → sProp 𝕄} (O O' : CellTallies nD τ sig Unit) (hO : O = O' + tallyAt (rCell (fwd c j) j) () N)
    (W : Waits sig Unit)
    (fs : Buf (Elt F) ((c : Thread nD τ).loc cc0_scratch3)) (fd : Buf (Elt F) ((fwd c j : Thread nD τ).loc cc0_scratch4))
    (h : rM.view.readAt (Elt F) (slabR j).toLoadRect ((rSlab j).view.write (Elt F) fd ((sSlab j).view.read (Elt F) fs) Finset.univ) = chunk m c j) :
    iprop(cellInv ER (ringRd m) (K (c, .inr (.inl d))) (sCell c j)
        ∗ cellInv ER (ringRd m) (K (fwd c j, .inr (.inr d))) (rCell (fwd c j) j)
        ∗ ((sSlab j).view.loc (c : Thread nD τ) ↦[(sSlab j).view.set]{fullShare} fs)
        ∗ ((rSlab j).view.loc (fwd c j : Thread nD τ) ↦[(rSlab j).view.set]{fullShare} fd)
        ∗ owes (c : Thread nD τ) O W
        ∗ dutyTok ER (sCell c j) 0 d ∗ reached ER (sCell c j) 0
        ∗ dutyTok ER (rCell (fwd c j) j) 0 d ∗ reached ER (rCell (fwd c j) j) 0)
      ⊢ iprop(((cred (tallyAt (sCell c j) () N) ∗ owes (c : Thread nD τ) O' W) -∗ WP c (k ⟨⟩) Q)
          -∗ WP c (.op (.enqueueDma (sSlab j) (.remote (Dev.tc n : Thread nD τ) (rSlab j) (.dma (sSem j)) hsc) (.dma (rSem j)) hsrc hdst hsem) k) Q) := by
  subst hn
  exact Rounds.wp_send_pointsTo 𝒱₀ ER (ringRd m) (c : Thread nD τ) none (c' := (fwd c j : Thread nD τ)) (src := sSlab j) (dst := rSlab j)
    (sS := .dma (sSem j)) (sem := .dma (rSem j)) (κ₁ := K (c, .inr (.inl d))) (κ₂ := K (fwd c j, .inr (.inr d)))
    (r₁ := 0) (r₂ := 0) (d₁ := d) (d₂ := d) (fs := fs) (fd := fd) (duty_send m c j d hj) (duty_recv m (fwd c j) j d hj)
    () () N (N_slab j) (amount_send m c j d) (amount_recv m (fwd c j) j d) (O₀ := O) O' hO (W := W)
    (pay_send m c j d hj fs) (pay_recv m c j d hj _ h)

/-- Store a block in slab `j` and send it to the device `n`. -/
def putAt (n : Dev nD) (j : Fin 16) (v : FVec F S1x256x512 .bf16) (k : KP F) : KP F :=
  .op (.load sM (slabR j).toLoadRect (View.loadsAt_vmem h_S1x256x512)) fun _ =>
  .op (.store sM (slabR j) v Finset.univ (View.stores_vmem h_S1x256x512
    ((Memref.isWhole_whole _).storeExact_slice rfl _ (slab_packed j)) (fun _ => rfl)) (.inl rfl)) fun _ =>
  .op (.enqueueDma (sSlab j) (.remote (Dev.tc n) (rSlab j) (.dma (sSem j))) (.dma (rSem j))
    (((Memref.isWhole_whole _).wordExact_slice rfl _ (slab_words j)).reshape _ _)
    (((Memref.isWhole_whole _).wordExact_slice rfl _ (slab_words j)).reshape _ _) ⟨⟨rfl, Or.inl rfl⟩, trivial⟩) fun _ => k

theorem wp_putAt (c n : Dev nD) (j : Fin 16) (d : Fin 15) (hj : j = d.succ) (hn : n = fwd c j) (O O' : CellTallies nD τ sig Unit)
    (hO : O = O' + tallyAt (rCell (fwd c j) j) () N) (k : KP F) {Q : PUnit → sProp 𝕄} :
    iprop(known m K ∗ owing c O ∗ (∃ f, sPts c j f) ∗ (∃ f, rPts (fwd c j) j f) ∗ dutyTok ER (sCell c j) 0 d
        ∗ dutyTok ER (rCell (fwd c j) j) 0 d)
      ⊢ iprop((iprop(owing c O' ∗ cred (tallyAt (sCell c j) () N)) -∗ WP c k Q) -∗ WP c (putAt n j (chunk m c j) k) Q) := by
  unfold putAt owing
  iintro ⟨#Hf, ⟨%W, HO⟩, ⟨%fs, Hs⟩, ⟨%fr, Hr⟩, Ht1, Ht2⟩ Hk
  unfold sPts
  iapply (wp_load 𝒱₀ (c : Thread nD τ) none Set.univ (m := sM) (r := (slabR j).toLoadRect) (S := (slabR j).set) (setOn_slab j)) $$ Hs
  iintro Hs
  iapply (wp_store 𝒱₀ (c : Thread nD τ) none Set.univ (m := sM) (r := slabR j) (Mk := Finset.univ) (S := (slabR j).set)
    (View.set_slice_whole cc0_scratch3 (slabR j)).subset) $$ Hs
  iintro Hs
  ihave Hr' := (Entails.of_eq (rPts_view (fwd c j) j fr)) $$ Hr
  iapply (wp_send_slab m K c n j d hj hn O O' hO W _ fr (read_landed j fr fs _)) $$ [HO Hs Hr' Ht1 Ht2]
  · isplitr; · iapply (inv_send m K c j d hj); iexact Hf
    isplitr; · iapply (inv_recv m K (fwd c j) j d hj); iexact Hf
    isplitl [Hs]; · iapply (Entails.of_eq (sPts_view c j _)); unfold sPts; iexact Hs
    isplitl [Hr']; · iexact Hr'
    isplitl [HO]; · iexact HO
    isplitl [Ht1]; · iexact Ht1
    isplitr; · iapply (reached_send m K c j d hj); iexact Hf
    isplitl [Ht2]; · iexact Ht2
    iapply (reached_recv m K (fwd c j) j d hj); iexact Hf
  iintro ⟨Hc, HO⟩
  iapply Hk
  isplitl [HO]; · iexists W; iexact HO
  iexact Hc

theorem wp_put (c : Dev nD) (t : Fin 15) (k : KP F) {Q : PUnit → sProp 𝕄} :
    iprop(known m K ∗ owing c (dues (oR c) t.val) ∗ putRes c t)
      ⊢ iprop((iprop(owing c (dues (oR c) (t.val + 1)) ∗ putCred c t) -∗ WP c k Q)
        -∗ WP c (putStep c t.val (chunk m c (order t.val)) k) Q) :=
  wp_putAt m K c (dstDev c t.val) (order t.val) (ord t) (order_eq t) (by rw [dstDev_eq, order_eq])
    (dues (oR c) t.val) (dues (oR c) (t.val + 1)) (by rw [dues_step (oR c) t, order_eq]; rfl) k

end Cert.KProof
-- ==== Proof.Stages.lean ====
/-
The loops of the body, and the body from its start to its end.
-/
module

public import proofs.«01_k».proof.Proof.Runs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KIx → ℕ)

/-! ## The stages that send -/

/-- The blocks not yet sent, and the credits of those sent. -/
def puts (c : Dev nD) (t : ℕ) : sProp 𝕄 := fam (putRes c) (putCred c) t

theorem wp_core (c : Dev nD) (t : Fin 15) (k : KP F) {Q : PUnit → sProp 𝕄} :
    iprop(known m K ∗ work m c t.val ∗ puts c t.val ∗ wFly m c (slot t.val) (order t.val))
      ⊢ iprop((iprop(work m c (t.val + 1) ∗ puts c (t.val + 1) ∗ wFree m c (slot t.val)) -∗ WP c k Q)
        -∗ WP c (coreStep c (sAt m c) t.val k) Q) := by
  unfold coreStep
  iintro ⟨#Hf, Hw, Hp, Hfly⟩ Hk
  iapply (wp_mul m K c t.val t.val (fun xb wb => putStep c t.val (k0_pay4 (sAt m c) xb wb) k)) $$ [Hw Hfly]
  · isplitr; · iexact Hf
    isplitl [Hw]; · iexact Hw
    iexact Hfly
  iintro ⟨Hw, Hfree⟩
  unfold work puts
  icases Hw with ⟨HO, Hb⟩
  ihave H := (fam_step (putRes (F := F) c) (putCred c) t) $$ Hp
  icases H with ⟨Hx, Hp⟩
  iapply (wp_put m K c t k) $$ [HO Hx]
  · isplitr; · iexact Hf
    isplitl [HO]; · iexact HO
    iexact Hx
  iintro ⟨HO, Hc⟩
  iapply Hk
  isplitl [HO Hb]
  · isplitl [HO]; · iexact HO
    iexact Hb
  isplitl [Hp Hc]
  · iapply Hp; iexact Hc
  iexact Hfree

theorem slot_turn (t : Fin 14) : slot (t.val + 3) = slot t.val := by revert t; decide

/-- Before stage `t`: its weights and the next stage's are flying, and a slot is free. -/
def stageSt (c : Dev nD) (t : ℕ) : sProp 𝕄 :=
  iprop((work m c t ∗ puts c t) ∗ wFly m c (slot t) (order t) ∗ wFly m c (slot (t + 1)) (order (t + 1)) ∗ wFree m c (slot (t + 2)))

theorem wp_stage (c : Dev nD) (t : ℕ) (ht : t < 14) (k : KP F) {Q : PUnit → sProp 𝕄} :
    iprop(known m K ∗ stageSt m c t) ⊢ iprop((stageSt m c (t + 1) -∗ WP c k Q) -∗ WP c (stageStep c (sAt m c) t k) Q) := by
  have hs : slot (t + 1 + 2) = slot t := slot_turn ⟨t, ht⟩
  unfold stageStep stageSt
  rw [hs]
  iintro ⟨#Hf, ⟨Hw, Hp⟩, Hf1, Hf2, Hfree⟩ Hk
  iapply (wp_pre m c (t + 2) (coreStep c (sAt m c) t k)) $$ Hfree
  iintro Hf3
  iapply (wp_core m K c ⟨t, by omega⟩ k) $$ [Hw Hp Hf1]
  · isplitr; · iexact Hf
    isplitl [Hw]; · iexact Hw
    isplitl [Hp]; · iexact Hp
    iexact Hf1
  iintro ⟨Hw, Hp, Hfree⟩
  iapply Hk
  isplitl [Hw Hp]
  · isplitl [Hw]; · iexact Hw
    iexact Hp
  isplitl [Hf2]; · iexact Hf2
  isplitl [Hf3]; · iexact Hf3
  iexact Hfree

/-! ## The device's own block -/

theorem wp_own (c : Dev nD) (k : KP F) {Q : PUnit → sProp 𝕄} :
    iprop(known m K ∗ work m c 15 ∗ wFly m c (slot 15) (order 15) ∗ ∃ f, outPts c f)
      ⊢ iprop((iprop(work m c 15 ∗ wFree m c (slot 15) ∗ ∃ f, ⌜Done m c (doneSet c 0) f⌝ ∗ outPts c f) -∗ WP c k Q)
        -∗ WP c (ownStep c (sAt m c) k) Q) := by
  unfold ownStep
  iintro ⟨#Hf, Hw, Hfly, ⟨%f, Ho⟩⟩ Hk
  iapply (wp_mul m K c 15 15 (fun xb wb =>
    .op (.load oM (ownR c).toLoadRect (View.loadsAt_vmem h_S256x512)) fun _ =>
    .op (.store oM (ownR c) (k0_pay38 (sAt m c) xb wb) Finset.univ (View.stores_vmem_bits_univ h_S256x512 rfl) (.inl rfl)) fun _ => k)) $$ [Hw Hfly]
  · isplitr; · iexact Hf
    isplitl [Hw]; · iexact Hw
    iexact Hfly
  iintro ⟨Hw, Hfree⟩
  unfold outPts
  iapply (wp_load 𝒱₀ (c : Thread nD τ) none Set.univ (m := oM) (Finset.subset_univ _)) $$ Ho
  iintro Ho
  iapply (wp_store 𝒱₀ (c : Thread nD τ) none Set.univ (m := oM) (r := ownR c) (Mk := Finset.univ) (Finset.subset_univ _)) $$ Ho
  iintro Ho
  iapply Hk
  isplitl [Hw]; · iexact Hw
  isplitl [Hfree]; · iexact Hfree
  iexists _
  isplitr
  swap; · iexact Ho
  ipureintro
  have h := done_store m c c ∅ (k0_off2 c) (k0_off2_eq c) (k0_off2_inb c) f (done_zero m c f)
  rw [blkAt_own, show insert c (∅ : Finset (Dev nD)) = doneSet c 0 from (doneSet_zero c).symm] at h
  exact h

/-! ## The arrivals -/

def recvRes (c : Dev nD) (x : Fin 15) : sProp 𝕄 := iprop(cred (tallyAt (rCell c x.succ) () N) ∗ atPos ER (rCell c x.succ) 0 ∅ 0)
def recvDone (c : Dev nD) (x : Fin 15) : sProp 𝕄 := iprop((∃ f, rPts c x.succ f) ∗ semVal (rCell c x.succ) 0)
def recvSt (c : Dev nD) (i : ℕ) : sProp 𝕄 :=
  iprop(owing c 0 ∗ fam (recvRes c) (recvDone c) i ∗ ∃ f, ⌜Done m c (doneSet c i) f⌝ ∗ outPts c f)

/-- Wait for the block from `r + 1` places back and store it. -/
def recvAt (c : Dev nD) (r : Fin 15) (k : KP F) : KP F :=
  .op (.waitDma2 (rSem r.succ) (sSlab r.succ) (rSlab r.succ)
    (((Memref.isWhole_whole _).wordExact_slice rfl _ (slab_words r.succ)).reshape _ _)
    (((Memref.isWhole_whole _).wordExact_slice rfl _ (slab_words r.succ)).reshape _ _)) fun _ =>
  .op (.load rM (slabR r.succ).toLoadRect (View.loadsAt_vmem h_S1x256x512)) fun v =>
  .op (.load oM (arrR c r).toLoadRect (View.loadsAt_vmem h_S256x512)) fun _ =>
  .op (.store oM (arrR c r) (k0_pay39 v) Finset.univ (View.stores_vmem_bits_univ h_S256x512 rfl) (.inl rfl)) fun _ => k

theorem wp_recvAt (c : Dev nD) (r : Fin 15) (k : KP F) {Q : PUnit → sProp 𝕄} :
    iprop(known m K ∗ recvSt m c r.val) ⊢ iprop((recvSt m c (r.val + 1) -∗ WP c k Q) -∗ WP c (recvAt c r k) Q) := by
  unfold recvAt recvSt owing outPts
  iintro ⟨#Hf, ⟨%W, HO⟩, Hfam, ⟨%f, %hf, Ho⟩⟩ Hk
  ihave H := (fam_step (recvRes (F := F) c) (recvDone c) r) $$ Hfam
  icases H with ⟨Hx, Hfam⟩
  unfold recvRes recvDone
  icases Hx with ⟨Hc, Hat⟩
  iapply (Rounds.wp_wait_rest_token 𝒱₀ ER (ringRd m) (c : Thread nD τ) none (κ := K (c, .inr (.inr r)))
      (wpE_waitDma2_eq 𝒱₀ (c : Thread nD τ) none Set.univ) (Set.mem_univ _) () (O := 0) (W := W) (R := 0) (m := 0) (T := ∅)
      ((Nat.zero_add _).trans ((N_slab r.succ).trans (expect_recv m c r).symm))) $$ [Hc HO Hat]
  · isplitr; · iapply (known_inv m K (c, .inr (.inr r))); iexact Hf
    isplitl [Hc]; · iexact Hc
    isplitl [HO]; · iexact HO
    isplitr; · rw [MayWait_zero]; iempintro
    iexact Hat
  iintro ⟨HO, Hat, -, Hpay⟩
  ihave Hp := (Entails.of_eq (rest_recv m c r)) $$ Hpay
  imod (Rounds.cell_close ER (ringRd m) (Set.mem_univ (K (c, .inr (.inr r)))) (fun h => h) (R := 0 + 1) (duties_later m (rCell c r.succ))) $$ [Hat] with Hz
  · isplitr; · iapply (known_inv m K (c, .inr (.inr r))); iexact Hf
    iexact Hat
  unfold recvPay rPts
  icases Hp with ⟨%fr, %hfr, Hr⟩
  iapply (wp_load 𝒱₀ (c : Thread nD τ) none Set.univ (m := rM) (r := (slabR r.succ).toLoadRect) (S := (slabR r.succ).set) (setOn_rslab r.succ)) $$ Hr
  iintro Hr
  rw [hfr]
  iapply (wp_load 𝒱₀ (c : Thread nD τ) none Set.univ (m := oM) (Finset.subset_univ _)) $$ Ho
  iintro Ho
  iapply (wp_store 𝒱₀ (c : Thread nD τ) none Set.univ (m := oM) (r := arrR c r) (Mk := Finset.univ) (Finset.subset_univ _)) $$ Ho
  iintro Ho
  iapply Hk
  isplitl [HO]; · iexists _; iexact HO
  isplitl [Hfam Hr Hz]
  · iapply Hfam
    isplitl [Hr]; · iexists _; iexact Hr
    iexact Hz
  iexists _
  isplitr
  swap; · iexact Ho
  ipureintro
  have h := done_store m c (bwd c r.succ) (doneSet c r.val) (k0_off3 c (BitVec.ofNat 32 (1 + r.val))) (off3_eq c r) (k0_off3_inb c r) f hf
  rw [blkAt_bwd, ← doneSet_succ] at h
  exact h

theorem wp_recv (c : Dev nD) (i : ℕ) (hi : i < 15) (k : KP F) {Q : PUnit → sProp 𝕄} :
    iprop(known m K ∗ recvSt m c i) ⊢ iprop((recvSt m c (i + 1) -∗ WP c k Q) -∗ WP c (recvStep c i k) Q) := by
  have e : recvStep c i k = recvAt c ⟨i, hi⟩ k := by
    show recvAt c (arr i) k = _
    rw [show arr i = ⟨i, hi⟩ from arr_lt ⟨i, hi⟩]
  rw [e]
  exact wp_recvAt m K c ⟨i, hi⟩ k

/-! ## The ends of the sends -/

def sentRes (c : Dev nD) (t : Fin 15) : sProp 𝕄 := iprop(putCred c t ∗ atPos ER (sCell c (order t.val)) 0 ∅ 0)
def sentDone (c : Dev nD) (t : Fin 15) : sProp 𝕄 := iprop((∃ f, sPts c (order t.val) f) ∗ semVal (sCell c (order t.val)) 0)
def sentSt (c : Dev nD) (t : ℕ) : sProp 𝕄 := iprop(owing c 0 ∗ fam (sentRes c) (sentDone c) t)

/-- Wait for the end of the send of slab `j`. -/
def sentAt (j : Fin 16) (k : KP F) : KP F :=
  .op (.waitDma2 (sSem j) (rSlab j) (sSlab j)
    (((Memref.isWhole_whole _).wordExact_slice rfl _ (slab_words j)).reshape _ _)
    (((Memref.isWhole_whole _).wordExact_slice rfl _ (slab_words j)).reshape _ _)) fun _ => k

theorem wp_sentAt (c : Dev nD) (j : Fin 16) (d : Fin 15) (hj : j = d.succ) (k : KP F) {Q : PUnit → sProp 𝕄} :
    iprop(known m K ∗ owing c 0 ∗ cred (tallyAt (sCell c j) () N) ∗ atPos ER (sCell c j) 0 ∅ 0)
      ⊢ iprop((iprop(owing c 0 ∗ (∃ f, sPts c j f) ∗ semVal (sCell c j) 0) -∗ WP c k Q) -∗ WP c (sentAt j k) Q) := by
  subst hj
  unfold sentAt owing
  iintro ⟨#Hf, ⟨%W, HO⟩, Hc, Hat⟩ Hk
  iapply (Rounds.wp_wait_rest_token 𝒱₀ ER (ringRd m) (c : Thread nD τ) none (κ := K (c, .inr (.inl d)))
      (wpE_waitDma2_eq 𝒱₀ (c : Thread nD τ) none Set.univ) (Set.mem_univ _) () (O := 0) (W := W) (R := 0) (m := 0) (T := ∅)
      ((Nat.zero_add _).trans ((N_sslab d.succ).trans (expect_send m c d).symm))) $$ [Hc HO Hat]
  · isplitr; · iapply (known_inv m K (c, .inr (.inl d))); iexact Hf
    isplitl [Hc]; · iexact Hc
    isplitl [HO]; · iexact HO
    isplitr; · rw [MayWait_zero]; iempintro
    iexact Hat
  iintro ⟨HO, Hat, -, Hpay⟩
  ihave Hp := (Entails.of_eq (rest_send m c d)) $$ Hpay
  imod (Rounds.cell_close ER (ringRd m) (Set.mem_univ (K (c, .inr (.inl d)))) (fun h => h) (R := 0 + 1) (duties_later m (sCell c d.succ))) $$ [Hat] with Hz
  · isplitr; · iapply (known_inv m K (c, .inr (.inl d))); iexact Hf
    iexact Hat
  unfold sendPay
  iapply Hk
  isplitl [HO]; · iexists _; iexact HO
  isplitl [Hp]; · iexact Hp
  iexact Hz

theorem wp_sent (c : Dev nD) (i : ℕ) (hi : i < 15) (k : KP F) {Q : PUnit → sProp 𝕄} :
    iprop(known m K ∗ sentSt c i) ⊢ iprop((sentSt c (i + 1) -∗ WP c k Q) -∗ WP c (sentStep i k) Q) := by
  obtain ⟨t, rfl⟩ : ∃ x : Fin 15, x.val = i := ⟨⟨i, hi⟩, rfl⟩
  show _ ⊢ iprop((sentSt c (t.val + 1) -∗ WP c k Q) -∗ WP c (sentAt (order t.val) k) Q)
  unfold sentSt
  iintro ⟨#Hf, HO, Hfam⟩ Hk
  ihave H := (fam_step (sentRes (F := F) c) (sentDone c) t) $$ Hfam
  icases H with ⟨Hx, Hfam⟩
  unfold sentRes sentDone putCred
  icases Hx with ⟨Hc, Hat⟩
  iapply (wp_sentAt m K c (order t.val) (ord t) (order_eq t) k) $$ [HO Hc Hat]
  · isplitr; · iexact Hf
    isplitl [HO]; · iexact HO
    isplitl [Hc]; · iexact Hc
    iexact Hat
  iintro ⟨HO, Hx⟩
  iapply Hk
  isplitl [HO]; · iexact HO
  iapply Hfam; iexact Hx

end Cert.KProof
-- ==== Proof.Body.lean ====
/-
The body, from what a device holds at its start to what it holds at its end.
-/
module

public import proofs.«01_k».proof.Proof.Stages

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KIx → ℕ)

/-! ## The inputs -/

def xPts (c : Dev nD) (f : Buf (Elt F) ((c : Thread nD τ).loc cc0_stg0_0)) : sProp 𝕄 := ((c : Thread nD τ).loc cc0_stg0_0) ↦{fullShare} f
def sxPts (c : Dev nD) (f : Buf (Elt F) ((c : Thread nD τ).loc cc0_stg1_0)) : sProp 𝕄 := ((c : Thread nD τ).loc cc0_stg1_0) ↦{fullShare} f
def swPts (c : Dev nD) (f : Buf (Elt F) ((c : Thread nD τ).loc cc0_stg2_0)) : sProp 𝕄 := ((c : Thread nD τ).loc cc0_stg2_0) ↦{fullShare} f

omit [FloatOps F] in
theorem read_x (f : (cc0_stg0_0 : Ref sig .tc).ty.Contents (Elt F)) : xM.view.readAt (Elt F) xR.toLoadRect f = f :=
  Memref.readAt_unit_zero (Elt F) cc0_stg0_0 hz _ f
omit [FloatOps F] in
theorem write_xb (f w : (cc0_scratch1 : Ref sig .tc).ty.Contents (Elt F)) :
    (xbM.access xR).write (Elt F) f w Finset.univ = w := Memref.write_access_unit_zero_univ (Elt F) cc0_scratch1 hz _ f w
theorem idx1 (i j : S1.Idx) : i = j := by
  have h1 : (i 0).val < 1 := (i 0).isLt
  have h2 : (j 0).val < 1 := (j 0).isLt
  funext a; fin_cases a; exact Fin.ext (by show (i 0).val = (j 0).val; omega)

/-- The rows of `x` are rounded. -/
theorem wp_round (c : Dev nD) (k : KP F) {Q : PUnit → sProp 𝕄} :
    iprop(xPts c (xAt m c) ∗ ∃ f, xbPts c f)
      ⊢ iprop((iprop(xPts c (xAt m c) ∗ xbPts c (xbAt m c)) -∗ WP c k Q)
        -∗ WP c (.op (.load xM xR.toLoadRect (View.loadsAt_vmem h_S256x4096)) fun x =>
  .op (.load xbM xR.toLoadRect (View.loadsAt_vmem h_S256x4096)) fun _ =>
  .op (.store xbM xR (k0_pay1 x) Finset.univ (View.stores_vmem h_S256x4096
    ((Memref.isWhole_whole _).storeExact_slice rfl _ packedbf16_S256x4096_S256x4096_0_0) (fun _ => rfl)) (.inl rfl)) fun _ => k) Q) := by
  unfold xPts xbPts
  iintro ⟨Hx, ⟨%f, Hb⟩⟩ Hk
  iapply (wp_load 𝒱₀ (c : Thread nD τ) none Set.univ (m := xM) (Finset.subset_univ _)) $$ Hx
  iintro Hx
  rw [read_x]
  iapply (wp_load 𝒱₀ (c : Thread nD τ) none Set.univ (m := xbM) (Finset.subset_univ _)) $$ Hb
  iintro Hb
  iapply (wp_store 𝒱₀ (c : Thread nD τ) none Set.univ (m := xbM) (r := xR) (Mk := Finset.univ) (Finset.subset_univ _)) $$ Hb
  iintro Hb
  rw [write_xb]
  iapply Hk
  isplitl [Hx]; · iexact Hx
  iexact Hb

/-- The scales are read. -/
theorem wp_scales (c : Dev nD) (k : F .f32 → F .f32 → KP F) {Q : PUnit → sProp 𝕄} :
    iprop(sxPts c (sxAt m c) ∗ swPts c (swAt m c))
      ⊢ iprop((iprop(sxPts c (sxAt m c) ∗ swPts c (swAt m c)) -∗ WP c (k (sxAt m c i0) (swAt m c i0)) Q)
        -∗ WP c ((smemLoad sxM (Rect.unit (s := S1) ![0] S1.size inb_S1_S1_0) numel1_S1 rfl).bind fun sx =>
          (smemLoad swM (Rect.unit (s := S1) ![0] S1.size inb_S1_S1_0) numel1_S1 rfl).bind fun sw => k sx sw) Q) := by
  have e : ((smemLoad sxM (Rect.unit (s := S1) ![0] S1.size inb_S1_S1_0) numel1_S1 rfl).bind fun sx =>
          (smemLoad swM (Rect.unit (s := S1) ![0] S1.size inb_S1_S1_0) numel1_S1 rfl).bind fun sw => k sx sw : KP F)
      = .op (.load sxM (Rect.unit (s := S1) ![0] S1.size inb_S1_S1_0).toLoadRect (View.loadsAt_rect (View.loads_smem_one rfl numel1_S1))) fun f =>
        .op (.load swM (Rect.unit (s := S1) ![0] S1.size inb_S1_S1_0).toLoadRect (View.loadsAt_rect (View.loads_smem_one rfl numel1_S1))) fun g => k (f i0) (g i0) := rfl
  have e1 : sxM.view.readAt (Elt F) (Rect.unit (s := S1) ![0] S1.size inb_S1_S1_0).toLoadRect (sxAt m c) i0 = sxAt m c i0 :=
    congrArg (sxAt m c) (idx1 _ _)
  have e2 : swM.view.readAt (Elt F) (Rect.unit (s := S1) ![0] S1.size inb_S1_S1_0).toLoadRect (swAt m c) i0 = swAt m c i0 :=
    congrArg (swAt m c) (idx1 _ _)
  rw [e]
  unfold sxPts swPts
  iintro ⟨Hx, Hw⟩ Hk
  iapply (wp_load 𝒱₀ (c : Thread nD τ) none Set.univ (m := sxM) (Finset.subset_univ _)) $$ Hx
  iintro Hx
  iapply (wp_load 𝒱₀ (c : Thread nD τ) none Set.univ (m := swM) (Finset.subset_univ _)) $$ Hw
  iintro Hw
  rw [e1, e2]
  iapply Hk
  isplitl [Hx]; · iexact Hx
  iexact Hw

/-! ## Before and after -/

/-- For the send of stage `t`, before the barrier. -/
def putPre (c : Dev nD) (t : Fin 15) : sProp 𝕄 :=
  iprop((∃ f, sPts c (order t.val) f) ∗ dutyTok ER (sCell c (order t.val)) 0 (ord t) ∗ dutyTok ER (rCell (fwd c (order t.val)) (order t.val)) 0 (ord t))

omit [FloatOps F] in
theorem puts_start (c : Dev nD) :
    iprop((bigSep Finset.univ fun d : Fin 15 => barPay c d) ∗ bigSep Finset.univ (putPre (F := F) c)) ⊢ puts c 0 := by
  unfold puts
  rw [fam_start, BI.bigSep_univ_equiv ordE, ← BI.bigSep_sep']
  refine bigSep_mono fun t _ => ?_
  show iprop(barPay c (ord t) ∗ putPre c t) ⊢ putRes c t
  unfold putRes putPre barPay
  rw [order_eq]
  iintro ⟨H1, H2, H3, H4⟩
  isplitl [H2]; · iexact H2
  isplitl [H1]; · iexact H1
  isplitl [H3]; · iexact H3
  iexact H4

def inputs (c : Dev nD) : sProp 𝕄 := iprop(xPts c (xAt m c) ∗ sxPts c (sxAt m c) ∗ swPts c (swAt m c))
def slots (c : Dev nD) : sProp 𝕄 := iprop(wFree m c (slot 0) ∗ wFree m c (slot 1) ∗ wFree m c (slot 2))
def atSend (c : Dev nD) (t : Fin 15) : sProp 𝕄 := atPos ER (sCell c (order t.val)) 0 ∅ 0

def bodyIn (c : Dev nD) : sProp 𝕄 :=
  iprop(owing c (O₀ c) ∗ (bigSep Finset.univ (sigRes (F := F) c)) ∗ (cred (tallyAt (barCell c) () 15) ∗ atPos ER (barCell c) 0 ∅ 0)
    ∗ inputs m c ∗ (∃ f, outPts c f) ∗ (∃ f, xbPts c f) ∗ (∃ f, wbPts c f) ∗ slots m c
    ∗ bigSep Finset.univ (putPre (F := F) c) ∗ bigSep Finset.univ (recvRes (F := F) c) ∗ bigSep Finset.univ (atSend (F := F) c))

def bodyOut (c : Dev nD) : sProp 𝕄 :=
  iprop(owing c 0 ∗ semVal (barCell c) 0 ∗ inputs m c ∗ outPts c (outAt m c) ∗ (∃ f, xbPts c f) ∗ (∃ f, wbPts c f) ∗ slots m c
    ∗ bigSep Finset.univ (recvDone (F := F) c) ∗ bigSep Finset.univ (sentDone (F := F) c))

theorem wp_core_last (c : Dev nD) (k : KP F) {Q : PUnit → sProp 𝕄} :
    iprop(known m K ∗ work m c 14 ∗ puts c 14 ∗ wFly m c (slot 14) (order 14))
      ⊢ iprop((iprop(work m c 15 ∗ puts c 15 ∗ wFree m c (slot 2)) -∗ WP c k Q) -∗ WP c (coreStep c (sAt m c) 14 k) Q) :=
  wp_core m K c (14 : Fin 15) k

omit [FloatOps F] in
theorem sent_start (c : Dev nD) : iprop(owing c 0 ∗ puts c 15 ∗ bigSep Finset.univ (atSend (F := F) c)) ⊢ sentSt c 0 := by
  unfold sentSt puts
  rw [fam_start, fam_end]
  exact sep_mono_right (Entails.of_eq (BI.bigSep_sep (Finset.univ : Finset (Fin 15)) (putCred (F := F) c) (atSend (F := F) c)).symm)

theorem wp_done (c : Dev nD) {Q : PUnit → sProp 𝕄} : Q ⟨⟩ ⊢ WP c (.ret ⟨⟩) Q := by
  unfold WP
  rw [wp_ret]
  iintro H
  imodintro
  iexact H

/-- After the scales: from the operands in place to the result in place. -/
theorem wp_main (c : Dev nD) (k : KP F) {Q : PUnit → sProp 𝕄} :
    iprop(known m K ∗ work m c 0 ∗ puts c 0 ∗ slots m c ∗ (∃ f, outPts c f)
        ∗ bigSep Finset.univ (recvRes (F := F) c) ∗ bigSep Finset.univ (atSend (F := F) c))
      ⊢ iprop((iprop(owing c 0 ∗ outPts c (outAt m c) ∗ (∃ f, xbPts c f) ∗ (∃ f, wbPts c f) ∗ slots m c
          ∗ bigSep Finset.univ (recvDone (F := F) c) ∗ bigSep Finset.univ (sentDone (F := F) c)) -∗ WP c k Q)
        -∗ WP c (mainPart c (sAt m c) k) Q) := by
  unfold mainPart slots
  iintro ⟨#Hf, Hw, Hp, ⟨Hf0, Hf1, Hf2⟩, Ho, Hr, Hat⟩ Hk
  iapply (wp_pre m c 0) $$ Hf0
  iintro Hf0
  iapply (wp_pre m c 1) $$ Hf1
  iintro Hf1
  iapply (chain_loop c (known m K) (stageStep c (sAt m c)) (stageSt m c) 14 0 (fun i _ hi k => wp_stage m K c i (by omega) k)) $$ [Hw Hp Hf0 Hf1 Hf2]
  · isplitr; · iexact Hf
    unfold stageSt
    isplitl [Hw Hp]
    · isplitl [Hw]; · iexact Hw
      iexact Hp
    isplitl [Hf0]; · iexact Hf0
    isplitl [Hf1]; · iexact Hf1
    iexact Hf2
  rw [show (0 + 14 : ℕ) = 14 from rfl]
  unfold stageSt
  rw [show slot (14 + 2) = slot 1 from rfl, show (14 + 1 : ℕ) = 15 from rfl]
  iintro ⟨⟨Hw, Hp⟩, Hf0, Hf1, Hf2⟩
  iapply (wp_core_last m K c) $$ [Hw Hp Hf0]
  · isplitr; · iexact Hf
    isplitl [Hw]; · iexact Hw
    isplitl [Hp]; · iexact Hp
    iexact Hf0
  iintro ⟨Hw, Hp, Hf0⟩
  iapply (wp_own m K c) $$ [Hw Hf1 Ho]
  · isplitr; · iexact Hf
    isplitl [Hw]; · iexact Hw
    isplitl [Hf1]; · iexact Hf1
    iexact Ho
  rw [show slot 15 = slot 0 from rfl]
  iintro ⟨Hw, Hf1, Ho⟩
  unfold work
  rw [dues_end]
  icases Hw with ⟨HO, Hxb, Hwb⟩
  iapply (chain_loop c (known m K) (recvStep c) (recvSt m c) 15 0 (fun i _ hi k => wp_recv m K c i (by omega) k)) $$ [HO Hr Ho]
  · isplitr; · iexact Hf
    unfold recvSt
    rw [fam_start]
    isplitl [HO]; · iexact HO
    isplitl [Hr]; · iexact Hr
    iexact Ho
  rw [show (0 + 15 : ℕ) = 15 from rfl]
  unfold recvSt
  rw [fam_end]
  iintro ⟨HO, Hr, ⟨%fo, %hfo, Ho⟩⟩
  iapply (chain_loop c (known m K) sentStep (sentSt c) 15 0 (fun i _ hi k => wp_sent m K c i (by omega) k)) $$ [HO Hp Hat]
  · isplitr; · iexact Hf
    iapply (sent_start (F := F) c)
    isplitl [HO]; · iexact HO
    isplitl [Hp]; · iexact Hp
    iexact Hat
  rw [show (0 + 15 : ℕ) = 15 from rfl]
  unfold sentSt
  rw [fam_end]
  iintro ⟨HO, Hs⟩
  iapply Hk
  isplitl [HO]; · iexact HO
  isplitl [Ho]; · rw [done_all m c fo hfo]; iexact Ho
  isplitl [Hxb]; · iexists _; iexact Hxb
  isplitl [Hwb]; · iexact Hwb
  isplitl [Hf0 Hf1 Hf2]
  · isplitl [Hf1]; · iexact Hf1
    isplitl [Hf2]; · iexact Hf2
    iexact Hf0
  isplitl [Hr]; · iexact Hr
  iexact Hs

theorem wp_bodyOn (c : Dev nD) {Q : PUnit → sProp 𝕄} :
    iprop(known m K ∗ bodyIn m c) ⊢ iprop((bodyOut m c -∗ Q ⟨⟩) -∗ WP c (bodyOn c) Q) := by
  unfold bodyOn bodyIn inputs O₀
  iintro ⟨#Hf, HO, Hsig, ⟨Hcb, Hab⟩, ⟨Hx, Hsx, Hsw⟩, Ho, Hxb, Hwb, Hslots, Hpre, Hr, Hat⟩ Hk
  iapply (chain_loop c (known m K) (sigStep c) (sigSt c) 15 0 (fun i _ hi k => wp_sig m K c i (by omega) k)) $$ [HO Hsig]
  · isplitr; · iexact Hf
    unfold sigSt
    rw [fam_start]
    isplitl [HO]; · iexact HO
    iexact Hsig
  rw [show (0 + 15 : ℕ) = 15 from rfl]
  unfold sigSt
  rw [dues_end, add_zero]
  iintro ⟨HO, -⟩
  iapply (wp_bar m K c) $$ [HO Hcb Hab]
  · isplitr; · iexact Hf
    isplitl [HO]; · iexact HO
    isplitl [Hcb]; · iexact Hcb
    iexact Hab
  iintro ⟨HO, Hbar, Hz⟩
  iapply (wp_round m c) $$ [Hx Hxb]
  · isplitl [Hx]; · iexact Hx
    iexact Hxb
  iintro ⟨Hx, Hxb⟩
  iapply (wp_scales m c (fun sx sw => mainPart c (k0_pay2 sx sw) (.ret ⟨⟩))) $$ [Hsx Hsw]
  · isplitl [Hsx]; · iexact Hsx
    iexact Hsw
  iintro ⟨Hsx, Hsw⟩
  ihave Hp := (puts_start (F := F) c) $$ [Hbar Hpre]
  · isplitl [Hbar]; · iexact Hbar
    iexact Hpre
  iapply (wp_main m K c (.ret ⟨⟩)) $$ [HO Hxb Hwb Hp Hslots Ho Hr Hat]
  · isplitr; · iexact Hf
    unfold work
    isplitl [HO Hxb Hwb]
    · isplitl [HO]; · iexact HO
      isplitl [Hxb]; · iexact Hxb
      iexact Hwb
    isplitl [Hp]; · iexact Hp
    isplitl [Hslots]; · iexact Hslots
    isplitl [Ho]; · iexact Ho
    isplitl [Hr]; · iexact Hr
    iexact Hat
  iintro ⟨HO, Ho, Hxb, Hwb, Hslots, Hr, Hs⟩
  iapply (wp_done c)
  iapply Hk
  unfold bodyOut inputs
  isplitl [HO]; · iexact HO
  isplitl [Hz]; · iexact Hz
  isplitl [Hx Hsx Hsw]
  · isplitl [Hx]; · iexact Hx
    isplitl [Hsx]; · iexact Hsx
    iexact Hsw
  isplitl [Ho]; · iexact Ho
  isplitl [Hxb]; · iexact Hxb
  isplitl [Hwb]; · iexact Hwb
  isplitl [Hslots]; · iexact Hslots
  isplitl [Hr]; · iexact Hr
  iexact Hs

end Cert.KProof
-- ==== Proof.Deal.lean ====
/-
The ghost state at launch: how it is made, and how it is dealt to the devices.

Every cell starts with its owner. The token of each duty is made with the cell it pays into and has to reach the device
that pays it, so the tokens of all devices are permuted once, before any device starts.
-/
module

public import proofs.«01_k».proof.Proof.Body
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev KO : Type := Fin 3 ⊕ (Fin 16 ⊕ Fin 16)
abbrev osem : KO → SemLoc sig
  | .inl s => .dma (wSem s)
  | .inr (.inl j) => .dma (sSem j)
  | .inr (.inr j) => .dma (rSem j)

set_option maxRecDepth 8000 in
theorem ownSemFacts : Pipeline.OwnSemFacts cfg0.spec osem := by decide

abbrev ownSems (c : Dev nD) : sProp 𝕄 := Pipeline.ownSems0 (Ix := Unit) (Name := ℕ) (U := UU) (Lvl := ℕ) (Val := Elt F) (τ := τ) osem c

omit [FloatOps F] in
/-- A family over sixteen, its first member apart. -/
theorem bigSep_head (Φ : Fin 16 → sProp 𝕄) :
    bigSep Finset.univ Φ = iprop(Φ 0 ∗ bigSep Finset.univ fun i : Fin 15 => Φ i.succ) := by
  rw [Fin.univ_succ, Finset.cons_eq_insert, BI.bigSep_insert (by simp), BI.bigSep_map]; rfl
omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The counters that are in no cell of the exchange: the weight copies' three, and the unused first of each family. -/
def asideSems (c : Dev nD) : sProp 𝕄 :=
  iprop((bigSep Finset.univ fun s : Fin 3 => semVal (wCell c s) 0) ∗ semVal (sCell c 0) 0 ∗ semVal (rCell c 0) 0)

omit [FloatOps F] in
theorem ownSems_eq (c : Dev nD) : (ownSems c : sProp 𝕄)
    = iprop((bigSep Finset.univ fun s : Fin 3 => semVal (wCell c s) 0)
      ∗ (semVal (sCell c 0) 0 ∗ bigSep Finset.univ fun i : Fin 15 => semVal (sCell c i.succ) 0)
      ∗ (semVal (rCell c 0) 0 ∗ bigSep Finset.univ fun i : Fin 15 => semVal (rCell c i.succ) 0)) := by
  unfold ownSems Pipeline.ownSems0
  rw [bigSep_univ_sum, bigSep_univ_sum,
    bigSep_head (fun j => semVal ((c.tc : Thread nD τ), osem (.inr (.inl j))) 0), bigSep_head (fun j => semVal ((c.tc : Thread nD τ), osem (.inr (.inr j))) 0)]
  rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A family over the cells of one device. -/
theorem bigSep_kix (Φ : KIx → sProp 𝕄) : bigSep Finset.univ Φ
    = iprop(Φ (.inl ()) ∗ (bigSep Finset.univ fun i : Fin 15 => Φ (.inr (.inl i))) ∗ bigSep Finset.univ fun i : Fin 15 => Φ (.inr (.inr i))) := by
  rw [bigSep_univ_sum, bigSep_univ_sum, show (Finset.univ : Finset Unit) = {()} from rfl, bigSep_singleton]; rfl

omit [FloatOps F] in
theorem sems_split (c : Dev nD) : iprop(ownSems c ∗ unscopedSems0 c)
    ⊢ (iprop((bigSep Finset.univ fun k : KIx => semVal (kcell (c, k)) 0) ∗ asideSems c) : sProp 𝕄) := by
  rw [ownSems_eq, unscopedSems_eq, bigSep_kix]; unfold asideSems
  iintro ⟨⟨Hw, ⟨Hs0, Hs⟩, ⟨Hr0, Hr⟩⟩, Hb⟩
  isplitl [Hb Hs Hr]
  · isplitl [Hb]; · iexact Hb
    isplitl [Hs] <;> iassumption
  isplitl [Hw]; · iexact Hw
  isplitl [Hs0] <;> iassumption

/-! ## The launch element -/

def ringCells : Finset (GSem nD τ sig) := Finset.univ.map ⟨kcell, kcell_injective⟩

abbrev TIx : Type := Fin 15 ⊕ (Fin 15 ⊕ Fin 15)
/-- The cell a token is made with, and its duty. -/
abbrev tokCell : TIx → SemLoc sig × Fin 15
  | .inl i => (.reg barS, i)
  | .inr (.inl i) => (.dma (sSem i.succ), i)
  | .inr (.inr i) => (.dma (rSem i.succ), i)
theorem tokCell_injective : Function.Injective tokCell := by
  rintro (i | i | i) (j | j | j) h
  · exact congrArg Sum.inl (congrArg Prod.snd h)
  · exact absurd (congrArg Prod.fst h).symm (s_ne_bar _)
  · exact absurd (congrArg Prod.fst h).symm (r_ne_bar _)
  · exact absurd (congrArg Prod.fst h) (s_ne_bar _)
  · exact congrArg (Sum.inr ∘ Sum.inl) (congrArg Prod.snd h)
  · exact absurd (congrArg Prod.fst h) (s_ne_r _ _)
  · exact absurd (congrArg Prod.fst h) (r_ne_bar _)
  · exact absurd (congrArg Prod.fst h).symm (s_ne_r _ _)
  · exact congrArg (Sum.inr ∘ Sum.inr) (congrArg Prod.snd h)
abbrev tokOf (ct : Dev nD × TIx) : GSem nD τ sig × ℕ × Fin 15 := (((ct.1 : Thread nD τ), (tokCell ct.2).1), 0, (tokCell ct.2).2)
theorem tokOf_injective : Function.Injective (tokOf : Dev nD × TIx → GSem nD τ sig × ℕ × Fin 15) := by
  rintro ⟨c, t⟩ ⟨c', t'⟩ h
  have h1 : c = c' := congrArg (fun x : GSem nD τ sig × ℕ × Fin 15 => x.1.1.1) h
  have h2 : t = t' := tokCell_injective (congrArg (fun x : GSem nD τ sig × ℕ × Fin 15 => (x.1.2, x.2.2)) h)
  subst h1; subst h2; rfl
def ringToks : Finset (GSem nD τ sig × ℕ × Fin 15) := Finset.univ.map ⟨tokOf, tokOf_injective⟩

def u₀ : UU :=
  (initOf (Pipeline.cells cfgs cellOf_inj) (Pipeline.launchToks cfgs cellOf_inj), (initOf ringCells ringToks, 1))

/-- The tokens made with device `c`'s cells. -/
def toks (c : Dev nD) : sProp 𝕄 :=
  iprop((bigSep Finset.univ fun i : Fin 15 => dutyTok ER (barCell c) 0 i)
    ∗ (bigSep Finset.univ fun i : Fin 15 => dutyTok ER (sCell c i.succ) 0 i)
    ∗ bigSep Finset.univ fun i : Fin 15 => dutyTok ER (rCell c i.succ) 0 i)

def atAll (c : Dev nD) : sProp 𝕄 := bigSep Finset.univ fun k : KIx => atPos ER (kcell (c, k)) 0 ∅ 0

/-- What the launch element gives device `c`. -/
def G (c : Dev nD) : sProp 𝕄 :=
  iprop((bigSep Finset.univ fun k : KIx => roundState ER (ringRd m) (kcell (c, k)) 0)
    ∗ (atAll c ∗ bigSep Finset.univ fun k : KIx => reached ER (kcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G atAll; simp only [bigSep_sep']
  isplitl [Hst']; · iexact Hst'
  isplitl [Hat' Hr']
  · isplitl [Hat'] <;> iassumption
  iexact Htok'

/-! ## One device's cells, allocated -/

theorem core_alloc (c : Dev nD) : iprop(ownSems c ∗ unscopedSems0 c ∗ G m c)
    ⊢ |={Set.univ}=> iprop((bigSep Finset.univ fun k : KIx => iprop(∃ κ : ℕ, cellInv ER (ringRd m) κ (kcell (c, k))))
        ∗ (bigSep Finset.univ fun k : KIx => reached ER (kcell (c, k)) 0) ∗ toks c ∗ atAll c ∗ asideSems c) := by
  unfold G
  iintro ⟨Hos, Hus, Hst, ⟨Hat, Hre⟩, Htok⟩
  ihave Hv := (sems_split (F := F) c) $$ [Hos Hus]
  · isplitl [Hos] <;> iassumption
  icases Hv with ⟨Hv, Haside⟩
  imod (show iprop((bigSep Finset.univ fun k : KIx => semVal (kcell (c, k)) 0) ∗ bigSep Finset.univ fun k : KIx => roundState ER (ringRd m) (kcell (c, k)) 0)
      ⊢ (|={Set.univ}=> bigSep Finset.univ fun k : KIx => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Htok]; · iexact Htok
  isplitl [Hat] <;> iassumption

/-! ## The tokens carried to the devices that pay -/

def payBar (c : Dev nD) (x : Fin 15) : sProp 𝕄 := dutyTok ER (barCell (fwd c x.succ)) 0 x.rev
def paySend (c : Dev nD) (t : Fin 15) : sProp 𝕄 := dutyTok ER (sCell c (order t.val)) 0 (ord t)
def payRecv (c : Dev nD) (t : Fin 15) : sProp 𝕄 := dutyTok ER (rCell (fwd c (order t.val)) (order t.val)) 0 (ord t)
/-- The tokens of the duties device `c` pays. -/
def payToks (c : Dev nD) : sProp 𝕄 :=
  iprop((bigSep Finset.univ (payBar (F := F) c)) ∗ (bigSep Finset.univ (paySend (F := F) c)) ∗ bigSep Finset.univ (payRecv (F := F) c))

omit [FloatOps F] in
/-- A family over devices and partners, dealt again: partner `x` of device `c` becomes partner `σ x` of device `h x c`. -/
theorem deal (σ : Fin 15 ≃ Fin 15) (h : Fin 15 → Dev nD ≃ Dev nD) (T : Dev nD → Fin 15 → sProp 𝕄) :
    (bigSep Finset.univ fun c : Dev nD => bigSep Finset.univ fun i : Fin 15 => T c i)
      = bigSep Finset.univ fun c : Dev nD => bigSep Finset.univ fun x : Fin 15 => T (h x c) (σ x) := by
  rw [BI.bigSep_univ_comm, BI.bigSep_univ_equiv σ, BI.bigSep_univ_comm (fun (c : Dev nD) (x : Fin 15) => T (h x c) (σ x))]
  exact bigSep_congr fun x _ => BI.bigSep_univ_equiv (h x) _

omit [FloatOps F] in
theorem toks_around : (bigSep Finset.univ fun c : Dev nD => (toks c : sProp 𝕄)) = bigSep Finset.univ fun c : Dev nD => payToks c := by
  have hb : (bigSep Finset.univ fun c : Dev nD => bigSep Finset.univ fun i : Fin 15 => (dutyTok ER (barCell c) 0 i : sProp 𝕄))
      = bigSep Finset.univ fun c : Dev nD => bigSep Finset.univ (payBar (F := F) c) :=
    deal Fin.revPerm (fun x => shift x.succ) fun c i => dutyTok ER (barCell c) 0 i
  have hs : (bigSep Finset.univ fun c : Dev nD => bigSep Finset.univ fun i : Fin 15 => (dutyTok ER (sCell c i.succ) 0 i : sProp 𝕄))
      = bigSep Finset.univ fun c : Dev nD => bigSep Finset.univ (paySend (F := F) c) :=
    (deal ordE (fun x => Equiv.refl _) fun c i => dutyTok ER (sCell c i.succ) 0 i).trans
      (bigSep_congr fun c _ => bigSep_congr fun t _ => by unfold paySend; rw [order_eq]; rfl)
  have hr : (bigSep Finset.univ fun c : Dev nD => bigSep Finset.univ fun i : Fin 15 => (dutyTok ER (rCell c i.succ) 0 i : sProp 𝕄))
      = bigSep Finset.univ fun c : Dev nD => bigSep Finset.univ (payRecv (F := F) c) :=
    (deal ordE (fun x => shift (ord x).succ) fun c i => dutyTok ER (rCell c i.succ) 0 i).trans
      (bigSep_congr fun c _ => bigSep_congr fun t _ => by unfold payRecv; rw [order_eq]; rfl)
  unfold toks payToks
  rw [bigSep_sep', bigSep_sep', bigSep_sep', bigSep_sep', hb, hs, hr]

/-- What stays with device `c` besides the shared facts. -/
def linear (c : Dev nD) : sProp 𝕄 := iprop(payToks c ∗ atAll c ∗ asideSems c)

/-- What device `c` starts with. -/
def G' (c : Dev nD) : sProp 𝕄 := iprop(∃ K : Dev nD × KIx → ℕ, records m K ∗ linear c)

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KIx => iprop(∃ κ : ℕ, cellInv ER (ringRd m) κ (kcell (c, k))))
        ∗ (bigSep Finset.univ fun k : KIx => reached ER (kcell (c, k)) 0) ∗ toks c ∗ atAll c ∗ asideSems c) : sProp 𝕄)
      ⊢ bigSep Finset.univ (G' m) := by
  rw [bigSep_sep', bigSep_sep', bigSep_sep', toks_around, ← bigSep_sep',
    ← bigSep_univ_prod (fun ck : Dev nD × KIx => iprop(∃ κ : ℕ, cellInv ER (ringRd m) κ (kcell ck))),
    ← bigSep_univ_prod (fun ck : Dev nD × KIx => (reached ER (kcell ck) 0 : sProp 𝕄))]
  iintro ⟨HI, #HR, Hlin⟩
  ihave HK := (BI.bigSep_exists_pi Finset.univ (fun (ck : Dev nD × KIx) (κ : ℕ) => (cellInv ER (ringRd m) κ (kcell ck) : sProp 𝕄))) $$ HI
  icases HK with ⟨%K, #HI⟩
  iapply (bigSep_with (R := records m K) (Φ := fun c : Dev nD => iprop(payToks c ∗ atAll c ∗ asideSems c)) fun c _ => show _ ⊢ G' m c from by
    unfold G' linear; iintro H; iexists K; iexact H)
  isplitr
  · unfold records; isplitl; · iexact HI
    iexact HR
  · iexact Hlin

theorem glob : (bigSep Finset.univ fun c : Dev nD => iprop(ownSems c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_iff {a b : Dev nD} : barCell a = barCell b ↔ a = b :=
  ⟨fun h => congrArg (fun g : GSem nD τ sig => g.1.1) h, fun h => h ▸ rfl⟩
theorem recv_iff {a b : Dev nD} {i j : Fin 15} : rCell a i.succ = rCell b j.succ ↔ a = b ∧ i = j :=
  ⟨fun h => ⟨congrArg (fun g : GSem nD τ sig => g.1.1) h, Fin.succ_inj.mp (rSem_inj _ _ (congrArg Prod.snd h))⟩, fun ⟨h, h'⟩ => h ▸ h' ▸ rfl⟩

theorem dues_zero (o : Fin 15 → CellTallies nD τ sig Unit) (g : GSem nD τ sig) (u : Unit) : dues o 0 g u = ∑ x : Fin 15, o x g u := by
  rw [dues_apply]; exact Finset.sum_congr rfl fun x _ => if_neg (Nat.not_lt_zero _)

/-- All units owed to one barrier; -/
theorem owed_bar (c : Dev nD) : ∑ d : Dev nD, O₀ d (barCell c) () = 15 := by
  have h1 (d : Dev nD) : O₀ d (barCell c) () = ∑ x : Fin 15, if d = bwd c x.succ then 1 else 0 := by
    unfold O₀
    rw [Pi.add_apply, Finsupp.add_apply, dues_zero, dues_zero, Finset.sum_eq_zero fun x _ => by
      unfold oR; rw [tallyAt_ne_cell fun h => r_ne_bar _ (congrArg Prod.snd h).symm, Finsupp.zero_apply], zero_add]
    refine Finset.sum_congr rfl fun x _ => ?_
    unfold oB; rw [tallyAt_apply]
    refine if_congr ⟨fun h => ?_, fun h => ⟨?_, rfl⟩⟩ rfl rfl
    · rw [bar_iff.mp h.1, bwd_fwd]
    · rw [h, fwd_bwd]
  rw [Finset.sum_congr rfl fun d _ => h1 d, Finset.sum_comm,
    Finset.sum_congr rfl fun x _ => (Finset.sum_ite_eq' Finset.univ (bwd c x.succ) fun _ => 1).trans (if_pos (Finset.mem_univ _)),
    Finset.sum_const, Finset.card_univ, Fintype.card_fin, smul_eq_mul]
/-- the one block owed to a receive cell. -/
theorem owed_recv (c : Dev nD) (i : Fin 15) : ∑ d : Dev nD, O₀ d (rCell c i.succ) () = N := by
  have h1 (d : Dev nD) : O₀ d (rCell c i.succ) () = if d = bwd c i.succ then N else 0 := by
    unfold O₀
    rw [Pi.add_apply, Finsupp.add_apply, dues_zero, dues_zero, Finset.sum_eq_zero (f := fun x => oB d x (rCell c i.succ) ()) fun x _ => by
      unfold oB; rw [tallyAt_ne_cell fun h => r_ne_bar _ (congrArg Prod.snd h), Finsupp.zero_apply], add_zero]
    rw [Finset.sum_eq_single (ordE.symm i)]
    · unfold oR; rw [tallyAt_apply, show ord (ordE.symm i) = i from ordE.apply_symm_apply i]
      refine if_congr ⟨fun h => ?_, fun h => ⟨?_, rfl⟩⟩ rfl rfl
      · rw [(recv_iff.mp h.1).1, bwd_fwd]
      · rw [h, fwd_bwd]
    · intro x _ hx
      unfold oR; rw [tallyAt_apply, if_neg fun h => hx ?_]
      rw [(recv_iff.mp h.1).2]; exact (ordE.symm_apply_apply x).symm
    · exact fun h => absurd (Finset.mem_univ _) h
  rw [Finset.sum_congr rfl fun d _ => h1 d, Finset.sum_ite_eq' Finset.univ (bwd c i.succ) fun _ => N, if_pos (Finset.mem_univ _)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_bar]
theorem launch_recv (c : Dev nD) (i : Fin 15) :
    tallyOn (rCell c i.succ) (launchCredit (Pipeline.owing O₀) 0 (rCell c i.succ)) = (tallyAt (rCell c i.succ) () N : CellTallies nD τ sig Unit) := by
  unfold tallyAt; refine congrArg _ (Finsupp.ext fun u => ?_); cases u
  rw [Pipeline.launchCredit_owing, Finsupp.single_eq_same, owed_recv]

/-- The receive semaphores in use. -/
def recvSems : Finset (SemLoc sig) := Finset.univ.map ⟨fun i : Fin 15 => (.dma (rSem i.succ) : SemLoc sig), fun i j h => Fin.succ_inj.mp (rSem_inj _ _ h)⟩

omit [FloatOps F] in
theorem creds (c : Dev nD) : (Pipeline.launchCred O₀ c : sProp 𝕄)
    ⊢ iprop(cred (tallyAt (barCell c) () 15) ∗ bigSep Finset.univ fun i : Fin 15 => cred (tallyAt (rCell c i.succ) () N)) := by
  unfold Pipeline.launchCred
  rw [bigSep_univ_at _ (SemLoc.reg barS), launch_bar]
  refine sep_mono_right ?_
  have h : (bigSep recvSems fun sm => (cred (tallyOn (c.tc, sm) (launchCredit (Pipeline.owing O₀) 0 (c.tc, sm))) : sProp 𝕄))
      = bigSep Finset.univ fun i : Fin 15 => cred (tallyAt (rCell c i.succ) () N) := by
    unfold recvSems; rw [bigSep_map]
    exact bigSep_congr fun i _ => congrArg _ (launch_recv c i)
  rw [← h]
  refine bigSep_subset fun sm hs => ?_
  obtain ⟨i, _, rfl⟩ := Finset.mem_map.mp hs
  exact Finset.mem_erase.mpr ⟨r_ne_bar _, Finset.mem_univ _⟩

end Cert.KProof

end
-- ==== Proof.Glue.lean ====
/-
From what a device is launched with to what its body takes, and from what the body leaves back to what the launch wants.

The scratch buffers are cut into slabs and slots, the weights into read shares; at the end they are joined again.
-/
module

public import proofs.«01_k».proof.Proof.Deal

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KIx → ℕ)

/-! ## Cutting and joining a buffer of unknown contents -/

section Cut
variable {T : Type} [Fintype T] [DecidableEq T] [Inhabited T] (ℓ : Loc nD τ sig) (P : T → Finset (Idx ℓ))
  (hd : ∀ t t', t ≠ t' → Disjoint (P t) (P t')) (hc : (Finset.univ : Finset T).biUnion P = Finset.univ)

omit [FloatOps F] [Inhabited T] in
include hd hc in
theorem cut_any : (iprop(∃ f : Buf (Elt F) ℓ, ℓ ↦{fullShare} f) : sProp 𝕄)
    ⊢ bigSep Finset.univ fun t => iprop(∃ f : Buf (Elt F) ℓ, ℓ ↦[P t]{fullShare} f) := by
  iintro ⟨%f, H⟩
  iapply (show (ℓ ↦{fullShare} f : sProp 𝕄) ⊢ bigSep Finset.univ fun t => iprop(∃ f : Buf (Elt F) ℓ, ℓ ↦[P t]{fullShare} f) from by
    rw [← hc, pointsTo_biUnion Finset.univ P fun t _ t' _ h => hd t t' h]
    exact bigSep_mono fun t _ => show (ℓ ↦[P t]{fullShare} f : sProp 𝕄) ⊢ iprop(∃ f : Buf (Elt F) ℓ, ℓ ↦[P t]{fullShare} f) from by
      iintro H; iexists f; iexact H)
  iexact H

include hd hc in
theorem join_any : (bigSep Finset.univ fun t => (iprop(∃ f : Buf (Elt F) ℓ, ℓ ↦[P t]{fullShare} f) : sProp 𝕄))
    ⊢ iprop(∃ f : Buf (Elt F) ℓ, ℓ ↦{fullShare} f) := by
  iintro H
  ihave H := (BI.bigSep_exists_pi Finset.univ (fun (t : T) (f : Buf (Elt F) ℓ) => (ℓ ↦[P t]{fullShare} f : sProp 𝕄))) $$ H
  icases H with ⟨%fs, H⟩
  ihave H := (pointsTo_biUnion_join Finset.univ P fs (fs default) fun t _ t' _ h => hd t t' h) $$ H
  icases H with ⟨%g, -, H⟩
  rw [hc]
  iexists g
  iexact H

end Cut

/-- The five scratch buffers, whole. -/
def scr0 (c : Dev nD) : sProp 𝕄 := iprop(∃ f : Buf (Elt F) ((c : Thread nD τ).loc cc0_scratch0), ((c : Thread nD τ).loc cc0_scratch0) ↦{fullShare} f)
def scr3 (c : Dev nD) : sProp 𝕄 := iprop(∃ f : Buf (Elt F) ((c : Thread nD τ).loc cc0_scratch3), ((c : Thread nD τ).loc cc0_scratch3) ↦{fullShare} f)
def scr4 (c : Dev nD) : sProp 𝕄 := iprop(∃ f : Buf (Elt F) ((c : Thread nD τ).loc cc0_scratch4), ((c : Thread nD τ).loc cc0_scratch4) ↦{fullShare} f)
def scr (c : Dev nD) : sProp 𝕄 := iprop(scr0 c ∗ (∃ f, xbPts c f) ∗ (∃ f, wbPts c f) ∗ scr3 c ∗ scr4 c)
/-- The weights. -/
def argW (c : Dev nD) : sProp 𝕄 := ((c : Thread nD τ).loc main_arg1) ↦{fullShare} m ((c : Thread nD τ).loc main_arg1)
/-- What is left of the weights beside the three read shares. -/
def argRest (c : Dev nD) : sProp 𝕄 :=
  ((c : Thread nD τ).loc main_arg1) ↦{Transfers.shareDrop fullShare 3} m ((c : Thread nD τ).loc main_arg1)

omit [FloatOps F] in
theorem cut_w3 (c : Dev nD) : (scr0 c : sProp 𝕄) ⊢ bigSep Finset.univ fun s : Fin 3 => iprop(∃ f, w3Pts (F := F) c s f) := by
  unfold scr0 w3Pts
  exact cut_any ((c : Thread nD τ).loc cc0_scratch0) (fun s : Fin 3 => (slotR s).set) slot_disjoint slot_cover
theorem join_w3 (c : Dev nD) : (bigSep Finset.univ fun s : Fin 3 => iprop(∃ f, w3Pts (F := F) c s f)) ⊢ (scr0 c : sProp 𝕄) := by
  unfold scr0 w3Pts
  exact join_any ((c : Thread nD τ).loc cc0_scratch0) (fun s : Fin 3 => (slotR s).set) slot_disjoint slot_cover
omit [FloatOps F] in
theorem cut_s (c : Dev nD) : (scr3 c : sProp 𝕄) ⊢ iprop((∃ f, sPts (F := F) c 0 f) ∗ bigSep Finset.univ fun i : Fin 15 => iprop(∃ f, sPts (F := F) c i.succ f)) := by
  rw [← bigSep_head (fun j => iprop(∃ f, sPts (F := F) c j f))]
  unfold scr3 sPts
  exact cut_any ((c : Thread nD τ).loc cc0_scratch3) (fun j : Fin 16 => (slabR j).set) slab_disjoint slab_cover
theorem join_s (c : Dev nD) : iprop((∃ f, sPts (F := F) c 0 f) ∗ bigSep Finset.univ fun i : Fin 15 => iprop(∃ f, sPts (F := F) c i.succ f)) ⊢ (scr3 c : sProp 𝕄) := by
  rw [← bigSep_head (fun j => iprop(∃ f, sPts (F := F) c j f))]
  unfold scr3 sPts
  exact join_any ((c : Thread nD τ).loc cc0_scratch3) (fun j : Fin 16 => (slabR j).set) slab_disjoint slab_cover
omit [FloatOps F] in
theorem cut_r (c : Dev nD) : (scr4 c : sProp 𝕄) ⊢ iprop((∃ f, rPts (F := F) c 0 f) ∗ bigSep Finset.univ fun i : Fin 15 => iprop(∃ f, rPts (F := F) c i.succ f)) := by
  rw [← bigSep_head (fun j => iprop(∃ f, rPts (F := F) c j f))]
  unfold scr4 rPts
  exact cut_any ((c : Thread nD τ).loc cc0_scratch4) (fun j : Fin 16 => (slabR j).set) slab_disjoint slab_cover
theorem join_r (c : Dev nD) : iprop((∃ f, rPts (F := F) c 0 f) ∗ bigSep Finset.univ fun i : Fin 15 => iprop(∃ f, rPts (F := F) c i.succ f)) ⊢ (scr4 c : sProp 𝕄) := by
  rw [← bigSep_head (fun j => iprop(∃ f, rPts (F := F) c j f))]
  unfold scr4 rPts
  exact join_any ((c : Thread nD τ).loc cc0_scratch4) (fun j : Fin 16 => (slabR j).set) slab_disjoint slab_cover

omit [FloatOps F] in
theorem cut_arg (c : Dev nD) : argW m c ⊢ iprop(argRest m c ∗ bigSep Finset.univ fun s : Fin 3 => argPts m c s) :=
  Transfers.pointsTo_toks_split fullShare 3
omit [FloatOps F] in
theorem join_arg (c : Dev nD) : iprop(argRest m c ∗ bigSep Finset.univ fun s : Fin 3 => argPts m c s) ⊢ argW m c :=
  Transfers.pointsTo_toks_join fullShare 3

/-! ## The families, in the order in which the body takes them -/

omit [FloatOps F] in
theorem slots_eq (c : Dev nD) : slots m c = iprop((bigSep Finset.univ fun s : Fin 3 => iprop(∃ f, w3Pts (F := F) c s f))
    ∗ (bigSep Finset.univ fun s : Fin 3 => semVal (wCell c s) 0) ∗ bigSep Finset.univ fun s : Fin 3 => argPts m c s) := by
  rw [← bigSep_sep', ← bigSep_sep', bigSep_three]; rfl

omit [FloatOps F] in
theorem fwd_round (c : Dev nD) (x : Fin 15) : fwd (fwd c x.succ) x.rev.succ = c := by revert c x; decide +kernel

omit [FloatOps F] in
theorem sig_intro (c : Dev nD) : iprop((bigSep Finset.univ (payBar (F := F) c)) ∗ bigSep Finset.univ fun i : Fin 15 => iprop(∃ f, rPts (F := F) c i.succ f))
    ⊢ bigSep Finset.univ (sigRes (F := F) c) := by
  rw [BI.bigSep_univ_equiv Fin.revPerm (fun i : Fin 15 => iprop(∃ f, rPts (F := F) c i.succ f)), ← bigSep_sep']
  exact Entails.of_eq (bigSep_congr fun x _ => by unfold sigRes payBar barPay; rw [fwd_round]; rfl)

omit [FloatOps F] in
theorem by_order (Φ : Fin 16 → sProp 𝕄) : (bigSep Finset.univ fun i : Fin 15 => Φ i.succ) = bigSep Finset.univ fun t : Fin 15 => Φ (order t.val) := by
  rw [BI.bigSep_univ_equiv ordE]
  exact bigSep_congr fun t _ => by rw [order_eq]; rfl

omit [FloatOps F] in
theorem put_intro (c : Dev nD) : iprop((bigSep Finset.univ fun i : Fin 15 => iprop(∃ f, sPts (F := F) c i.succ f))
      ∗ (bigSep Finset.univ (paySend (F := F) c)) ∗ bigSep Finset.univ (payRecv (F := F) c))
    ⊢ bigSep Finset.univ (putPre (F := F) c) := by
  rw [by_order (fun j => iprop(∃ f, sPts (F := F) c j f)), ← bigSep_sep', ← bigSep_sep']
  exact Entails.of_eq (bigSep_congr fun t _ => rfl)

omit [FloatOps F] in
theorem at_intro (c : Dev nD) : (atAll c : sProp 𝕄) ⊢ iprop(atPos ER (barCell c) 0 ∅ 0 ∗ (bigSep Finset.univ (atSend (F := F) c))
    ∗ bigSep Finset.univ fun i : Fin 15 => atPos ER (rCell c i.succ) 0 ∅ 0) := by
  unfold atAll
  rw [bigSep_kix]
  exact sep_mono_right (sep_mono_left (Entails.of_eq (by_order (fun j => (atPos ER (sCell c j) 0 ∅ 0 : sProp 𝕄)))))

/-! ## In and out -/

/-- What device `c` starts with: its ghost state, its credit, the levels, the weights. -/
def start (c : Dev nD) : sProp 𝕄 :=
  iprop(G' m c ∗ cred (tallyAt (barCell c) () 15) ∗ (bigSep Finset.univ fun i : Fin 15 => cred (tallyAt (rCell c i.succ) () N))
    ∗ levAts L lv ∗ argW m c)
/-- What it ends with. -/
def done (c : Dev nD) : sProp 𝕄 := iprop(unscopedSems0 c ∗ ownSems c ∗ scr c ∗ argW m c)
/-- What the body does not use. -/
def unused (c : Dev nD) : sProp 𝕄 :=
  iprop(semVal (sCell c 0) 0 ∗ semVal (rCell c 0) 0 ∗ (∃ f, sPts (F := F) c 0 f) ∗ (∃ f, rPts (F := F) c 0 f) ∗ argRest m c)

theorem body_in (c : Dev nD) : iprop(start m c ∗ scr c ∗ owing c (O₀ c) ∗ inputs m c ∗ ∃ f, outPts c f)
    ⊢ iprop(∃ K : Dev nD × KIx → ℕ, (known m K ∗ bodyIn m c) ∗ unused m c) := by
  unfold start G' linear payToks asideSems scr
  iintro ⟨⟨⟨%K, #HR, ⟨Hpb, Hps, Hpr⟩, Hat, ⟨Hvw, Hvs, Hvr⟩⟩, Hcb, Hcr, #Hlev, Harg⟩, ⟨Hs0, Hxb, Hwb, Hs3, Hs4⟩, HO, Hin, Hout⟩
  ihave Hs0 := (cut_w3 (F := F) c) $$ Hs0
  ihave Hs3 := (cut_s (F := F) c) $$ Hs3
  icases Hs3 with ⟨Hsh, Hs3⟩
  ihave Hs4 := (cut_r (F := F) c) $$ Hs4
  icases Hs4 with ⟨Hrh, Hs4⟩
  ihave Harg := (cut_arg m c) $$ Harg
  icases Harg with ⟨Hrest, Harg⟩
  ihave Hat := (at_intro (F := F) c) $$ Hat
  icases Hat with ⟨Hab, Has, Har⟩
  ihave Hsig := (sig_intro (F := F) c) $$ [Hpb Hs4]
  · isplitl [Hpb] <;> iassumption
  ihave Hput := (put_intro (F := F) c) $$ [Hs3 Hps Hpr]
  · isplitl [Hs3]; · iexact Hs3
    isplitl [Hps] <;> iassumption
  iexists K
  isplitr [Hvs Hvr Hsh Hrh Hrest]
  · isplitr
    · unfold known
      isplitr; · iexact HR
      iexact Hlev
    unfold bodyIn
    isplitl [HO]; · iexact HO
    isplitl [Hsig]; · iexact Hsig
    isplitl [Hcb Hab]
    · isplitl [Hcb] <;> iassumption
    isplitl [Hin]; · iexact Hin
    isplitl [Hout]; · iexact Hout
    isplitl [Hxb]; · iexact Hxb
    isplitl [Hwb]; · iexact Hwb
    isplitl [Hs0 Hvw Harg]
    · rw [slots_eq]
      isplitl [Hs0]; · iexact Hs0
      isplitl [Hvw] <;> iassumption
    isplitl [Hput]; · iexact Hput
    isplitl [Hcr Har]
    · iapply (Entails.of_eq (bigSep_sep' (Finset.univ : Finset (Fin 15)) (fun i => (cred (tallyAt (rCell c i.succ) () N) : sProp 𝕄)) (fun i => atPos ER (rCell c i.succ) 0 ∅ 0)).symm)
      isplitl [Hcr] <;> iassumption
    iexact Has
  unfold unused
  isplitl [Hvs]; · iexact Hvs
  isplitl [Hvr]; · iexact Hvr
  isplitl [Hsh]; · iexact Hsh
  isplitl [Hrh] <;> iassumption

theorem body_out (c : Dev nD) : iprop(bodyOut m c ∗ unused m c) ⊢ iprop(done m c ∗ owing c 0 ∗ inputs m c ∗ outPts c (outAt m c)) := by
  unfold bodyOut unused
  have hr : bigSep Finset.univ (recvDone (F := F) c) = iprop((bigSep Finset.univ fun i : Fin 15 => iprop(∃ f, rPts (F := F) c i.succ f))
      ∗ bigSep Finset.univ fun i : Fin 15 => semVal (rCell c i.succ) 0) := by rw [← bigSep_sep']; rfl
  have hs : bigSep Finset.univ (sentDone (F := F) c) = iprop((bigSep Finset.univ fun i : Fin 15 => iprop(∃ f, sPts (F := F) c i.succ f))
      ∗ bigSep Finset.univ fun i : Fin 15 => semVal (sCell c i.succ) 0) := by
    rw [by_order (fun j => iprop(∃ f, sPts (F := F) c j f)), by_order (fun j => (semVal (sCell c j) 0 : sProp 𝕄)), ← bigSep_sep']; rfl
  rw [slots_eq, hr, hs]
  iintro ⟨⟨HO, Hb, Hin, Hout, Hxb, Hwb, ⟨Hw3, Hvw, Harg⟩, ⟨Hrp, Hvr⟩, ⟨Hsp, Hvs⟩⟩, ⟨Hvs0, Hvr0, Hsh, Hrh, Hrest⟩⟩
  isplitl [Hb Hxb Hwb Hw3 Hvw Harg Hrp Hvr Hsp Hvs Hvs0 Hvr0 Hsh Hrh Hrest]
  · unfold done scr
    rw [unscopedSems_eq, ownSems_eq]
    isplitl [Hb]; · iexact Hb
    isplitl [Hvw Hvr Hvs Hvs0 Hvr0]
    · isplitl [Hvw]; · iexact Hvw
      isplitl [Hvs Hvs0]
      · isplitl [Hvs0] <;> iassumption
      isplitl [Hvr0] <;> iassumption
    isplitr [Harg Hrest]
    · isplitl [Hw3]; · iapply (join_w3 (F := F) c); iexact Hw3
      isplitl [Hxb]; · iexact Hxb
      isplitl [Hwb]; · iexact Hwb
      isplitl [Hsp Hsh]
      · iapply (join_s (F := F) c)
        isplitl [Hsh] <;> iassumption
      iapply (join_r (F := F) c)
      isplitl [Hrh] <;> iassumption
    iapply (join_arg m c)
    isplitl [Hrest] <;> iassumption
  isplitl [HO]; · iexact HO
  isplitl [Hin] <;> iassumption

end Cert.KProof

end
-- ==== Proof.Run.lean ====
/-
The run of the whole program, for any float values: it ends, and what memory then holds.
-/
module

public import proofs.«01_k».proof.Proof.Glue
public import proofs.«01_k».proof.Proof.Gen.KernelIdeal.Points
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The launch's data: the windows' arrays as launched, what each staging buffer holds after the one point, what the
body is given and gives back, and what each device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => sxAt m c
    | ⟨2, _⟩ => swAt m c
    | ⟨3, _⟩ => outAt m c
  Φ t := match t with
    | ⟨0, _⟩ => iprop(start m c ∗ scr c)
    | ⟨_ + 1, _⟩ => done m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem held_eq (c : Dev nD) (b : Ref sig .tc) (X : b.ty.Contents (Elt F)) : (held c b X : sProp 𝕄) ⊢ (((c : Thread nD τ).loc b) ↦{fullShare} X) := by
  iintro ⟨%f, %h, H⟩
  subst h
  iexact H
omit [FloatOps F] in
theorem eq_held (c : Dev nD) (b : Ref sig .tc) (X : b.ty.Contents (Elt F)) : (((c : Thread nD τ).loc b) ↦{fullShare} X : sProp 𝕄) ⊢ held c b X := by
  iintro H
  iexists X
  isplitr; · ipureintro; rfl
  iexact H

theorem before_0 (c : Dev nD) (d) : (dats m ρ 0 c).before (0 : Fin 4) t0_0 d = xAt m c := by
  unfold Dat.before; rw [if_pos (fetch0_0 t0_0)]; rfl
theorem before_1 (c : Dev nD) (d) : (dats m ρ 0 c).before (1 : Fin 4) t0_0 d = sxAt m c := by
  unfold Dat.before; rw [if_pos (fetch0_1 t0_0)]; rfl
theorem before_2 (c : Dev nD) (d) : (dats m ρ 0 c).before (2 : Fin 4) t0_0 d = swAt m c := by
  unfold Dat.before; rw [if_pos (fetch0_2 t0_0)]; rfl

def pre (c : Dev nD) : sProp 𝕄 :=
  iprop((start m c ∗ scr c) ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
def post (c : Dev nD) : sProp 𝕄 :=
  iprop(done m c ∗ (dats m ρ 0 c).owesAt () t0_0.succ ∗ held c cc0_stg0_0 (xAt m c) ∗ held c cc0_stg1_0 (sxAt m c)
    ∗ held c cc0_stg2_0 (swAt m c) ∗ held c cc0_stg3_0 (outAt m c))

theorem pre_in (c : Dev nD) : pre m ρ c ⊢ iprop(start m c ∗ scr c ∗ owing c (O₀ c) ∗ inputs m c ∗ ∃ f, outPts c f) := by
  unfold pre inputs Dat.owesAt Pipeline.owesWithin owing
  simp only [before_0, before_1, before_2]
  iintro ⟨⟨Hs, Hscr⟩, ⟨%W, %hW, HO⟩, ⟨%d0, H0⟩, ⟨%d1, H1⟩, ⟨%d2, H2⟩, ⟨%d3, %f, %hf, H3⟩⟩
  isplitl [Hs]; · iexact Hs
  isplitl [Hscr]; · iexact Hscr
  isplitl [HO]; · iexists W; iexact HO
  isplitr [H3]
  · unfold xPts sxPts swPts
    isplitl [H0]; · iapply (held_eq c cc0_stg0_0 _); iexact H0
    isplitl [H1]; · iapply (held_eq c cc0_stg1_0 _); iexact H1
    iapply (held_eq c cc0_stg2_0 _); iexact H2
  unfold outPts
  iexists f
  iexact H3

theorem post_out (c : Dev nD) : iprop(done m c ∗ owing c 0 ∗ inputs m c ∗ outPts c (outAt m c)) ⊢ post m ρ c := by
  unfold post inputs Dat.owesAt Pipeline.owesWithin owing xPts sxPts swPts outPts
  rw [show (dats m ρ 0 c).owed t0_0.succ = 0 from rfl]
  iintro ⟨Hd, ⟨%W, HO⟩, ⟨H0, H1, H2⟩, H3⟩
  isplitl [Hd]; · iexact Hd
  isplitl [HO]
  · iexists W
    isplitr; · ipureintro; exact fun _ _ => Or.inl trivial
    iexact HO
  isplitl [H0]; · iapply (eq_held c cc0_stg0_0 _); iexact H0
  isplitl [H1]; · iapply (eq_held c cc0_stg1_0 _); iexact H1
  isplitl [H2]; · iapply (eq_held c cc0_stg2_0 _); iexact H2
  iapply (eq_held c cc0_stg3_0 _); iexact H3

theorem wp_body (c : Dev nD) : pre m ρ c ⊢ WP c (.op .deviceId bodyOn) (fun _ => post m ρ c) := by
  unfold WP
  rw [wp_deviceId]
  iintro H
  ihave H := (pre_in m ρ c) $$ H
  ihave H := (body_in m c) $$ H
  icases H with ⟨%K, HB, HU⟩
  iapply (wp_bodyOn m K c (Q := fun _ => post m ρ c)) $$ HB
  iintro HB
  iapply (post_out m ρ c)
  iapply (body_out m c)
  isplitl [HB] <;> iassumption

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact (congrArg (fun p => pre m ρ c ⊢ WP c p (fun _ => post m ρ c)) body_eq).mpr (wp_body m ρ c)

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  icases Hc with ⟨H1, HN⟩
  imodintro
  unfold start argW
  isplitl
  · isplitl [HG]; · iexact HG
    isplitl [H1]; · iexact H1
    isplitl [HN]; · iexact HN
    isplitl [Hlev]; · iexact Hlev
    iexact Harg
  · iempintro

omit [FloatOps F] in
theorem scr_eq (c : Dev nD) : (Pipeline.scopedRest cfg0.spec c : sProp 𝕄) = scr c := by rw [scopedRest0_eq]; rfl

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scr_eq]
  iintro ⟨Hs, -, Hr⟩
  isplitl [Hs]; · iexact Hs
  iexact Hr

theorem phi_out (c : Dev nD) : (dats m ρ 0 c).Φ (Fin.last cfg0.N)
    ⊢ iprop((unscopedSems0 c ∗ argW m c) ∗ ownSems c ∗ Pipeline.scopedRest cfg0.spec c) := by
  rw [show (dats m ρ 0 c).Φ (Fin.last cfg0.N) = done m c from rfl, scr_eq]
  unfold done
  iintro ⟨Hu, Ho, Hscr, Harg⟩
  isplitl [Hu Harg]
  · isplitl [Hu] <;> iassumption
  isplitl [Ho]; · iexact Ho
  iexact Hscr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_launch c _ (by fin_cases w <;> fin_cases s <;> decide)
    · show (levAts L lv : sProp 𝕄) ⊢ MayWait _ _ () 0
      rw [MayWait_zero]
      iintro -
      iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- What is read of a device's leftovers at the end: its counters outside the kernel's scope at zero, its weights unchanged. -/
theorem read_end (c : Dev nD) (s' : Phys nD τ sig (Elt F)) : iprop((unscopedSems0 c ∗ argW m c) ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ (SI s' : sProp 𝕄)) := by
  unfold argW
  iintro ⟨⟨Hu, Ha⟩, -, HSI⟩
  icombine HSI Ha gives %ha
  imod (Pipeline.unscopedSems0_read (X := unscopedSems0 c) (c := c) fupd_intro s') $$ [Hu HSI] with H
  · isplitl [Hu] <;> iassumption
  icases H with ⟨%h, HSI⟩
  imodintro
  isplitr
  · ipureintro; exact ⟨h, Buf.eq_of_forall_mem_univ ha⟩
  iexact HSI

omit [FloatOps F] in
theorem own_exchange (x : UB) : (BI.own ((embR : Emb (UB × Counters) 𝕄) (x, (1 : Counters))) : sProp 𝕄)
    ⊢ iprop(BI.own ((ER : Emb UB 𝕄) x) ∗ BI.own (((Emb.inr : Emb Counters (UB × Counters)).trans embR) (1 : Counters))) := by
  have h := own_pair_emb (embR : Emb (UB × Counters) 𝕄) x (1 : Counters)
  have e : ((Emb.inl : Emb UB (UB × Counters)).trans (embR : Emb (UB × Counters) 𝕄)) x = (ER : Emb UB 𝕄) x := by
    unfold ER embR; rfl
  rw [e] at h
  exact h

set_option maxRecDepth 100000 in
/-- Every fair execution ends, every device's windowed arrays as computed, its weights unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_exchange (F := F) _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argW m c)) (Z := fun _ => iprop(emp))
    (hX := start_intro m ρ) (hin := phi_in m ρ) (hout := phi_out m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end m c s')
    (hQ := fun _ h hs => ⟨fun c => ⟨fun w => (h c).1 w, (h c).2.2.2⟩, sem_eq_zero hs fun c => (h c).2.2.1⟩)

/-! ## What the arrays hold -/

theorem final_x (c : Dev nD) : finalA m ρ c (0 : Fin 4) = m ((c : Thread nD τ).loc main_arg0) := (dats (F := F) m ρ 0 c).arrAt_in (0 : Fin 4) rfl _
theorem final_sx (c : Dev nD) : finalA m ρ c (1 : Fin 4) = m ((c : Thread nD τ).loc main_arg2) := (dats (F := F) m ρ 0 c).arrAt_in (1 : Fin 4) rfl _
theorem final_sw (c : Dev nD) : finalA m ρ c (2 : Fin 4) = m ((c : Thread nD τ).loc main_arg3) := (dats (F := F) m ρ 0 c).arrAt_in (2 : Fin 4) rfl _

/-- The arguments are unchanged. -/
def Same (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

theorem same_of (r : PUnit × MemSt nD τ sig (Elt F)) (h : QC m ρ r) (c : Dev nD) : Same m r.2 c :=
  ⟨((h c).1 (0 : Fin 4)).trans (final_x m ρ c), (h c).2, ((h c).1 (1 : Fin 4)).trans (final_sx m ρ c), ((h c).1 (2 : Fin 4)).trans (final_sw m ρ c)⟩

/-- The result array, read as its one block, is what the body computed. -/
theorem final_out (c : Dev nD) : (win0_3.blk (0 : Fin 1)).view.read (Elt F) (finalA m ρ c (3 : Fin 4)) = outAt m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

end Cert.KProof

end
-- ==== Proof.Twin.lean ====
/-  The two printed programs have one text: the body table and the entry of one are those of the other. -/
module

public import proofs.«01_k».proof.Proof.Run
public import proofs.«01_k».proof.Defs
public import proofs.«01_k».proof.Proof.Gen.Kernel

@[expose] public section

set_option maxRecDepth 100000

namespace Cert.KProof

open Idealize.ShloMosaic Idealize.SL.Sem

attribute [local instance] Cert.Kernel.Gen.facts Cert.KernelIdeal.Gen.facts

variable {F : FTy → Type} [FloatOps F]

theorem twin_body : @Cert.Kernel.cc0_body F _ _ = @Cert.KernelIdeal.cc0_body F _ _ := rfl

theorem twin_table : @Cert.Kernel.defs₀ F _ _ = @Cert.KernelIdeal.defs₀ F _ _ := by
  unfold Cert.Kernel.defs₀ Cert.KernelIdeal.defs₀
  refine congrArg Defs.onTc ?_
  funext l a
  match l, a with
  | ⟨0, _⟩, (t, s) =>
    show Cert.Kernel.cc0_body _ _ _ _ _ _ _ _ _ _ _ _ _ _ _ _ _ _ _ _ _ _ _
      = Cert.KernelIdeal.cc0_body _ _ _ _ _ _ _ _ _ _ _ _ _ _ _ _ _ _ _ _ _ _ _
    rw [twin_body]
  | ⟨n + 1, h⟩, _ => exact absurd h (Nat.not_lt.2 (Nat.le_add_left _ _))

theorem twin_defs : Cert.Kernel.defs (F := F) = Cert.KernelIdeal.defs (F := F) := by
  unfold Cert.Kernel.defs Cert.KernelIdeal.defs
  rw [twin_table]
  rfl

theorem twin_main : Cert.Kernel.main (F := F) = Cert.KernelIdeal.main (F := F) := rfl

/-- The kernel at machine floats ends with its arguments unchanged and every counter at zero. -/
theorem frame_machine : Cert.quiescent_Kernel := by
  intro m ρ _
  rw [twin_defs, twin_main]
  exact (θ_run Cert.KernelIdeal.defs _ _).mono
    (fun r (h : QC (F := Bits) m ρ r ∧ r.2.sem = fun _ => 0) =>
      (⟨fun c => same_of m ρ r h.1 c, h.2⟩ : (∀ c, Same (F := Bits) m r.2 c) ∧ r.2.sem = fun _ => 0))
    (run_main (F := Bits) m ρ)

end Cert.KProof

end
-- ==== Proof.Value.lean ====
/-  The value of the result over the extended reals: row block `s` of the result on device `c` is the product of device
    `s`'s rows of `x` by the columns of the weights that lie on `c`, times the product of the two scales; and so is the
    part of the plain product that the mesh puts on `c`. -/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KProof

open Cert.KernelIdeal Cert.KernelIdeal.Gen
open Idealize.ShloMosaic Idealize.ShloMosaic.TcCoe Idealize.SL.Sem
open scoped BigOperators

/-! ## The body's arithmetic -/

/-- Rounding the rows of `x` changes nothing over the extended reals. -/
theorem pay1_ideal (X : Vec Ideal S256x4096 .f32) : @Eq (FVec Ideal S256x4096 .bf16) (k0_pay1 X) X := by
  unfold k0_pay1
  show shapeCast S256x4096 (truncf (F := Ideal) .bf16 (shapeCast S256x4096 X _) _) _ = X
  rw [shapeCast_self, shapeCast_self]
  rfl

/-- Nor does rounding the weights. -/
theorem pay3_ideal (W : Vec Ideal S4096x512 .f32) : @Eq (FVec Ideal S4096x512 .bf16) (k0_pay3 (F := Ideal) (shapeCast S1x4096x512 W shapeCasts_wslot)) W := by
  unfold k0_pay3
  show shapeCast S4096x512 (truncf (F := Ideal) .bf16 (shapeCast S4096x512 (shapeCast S1x4096x512 W shapeCasts_wslot) _) _) _ = W
  rw [shapeCast_self, shapeCast_shapeCast]
  rfl

/-- A block that was sent is the block as it was computed. -/
theorem pay39_ideal (s : Ideal .f32) (X : Vec Ideal S256x4096 .bf16) (W : Vec Ideal S4096x512 .bf16) :
    k0_pay39 (k0_pay4 s X W) = k0_pay38 s X W := by
  unfold k0_pay39 k0_pay4 k0_pay38
  show extf .f32 (shapeCast S256x512 (shapeCast S1x256x512 (truncf .bf16 (mulf _ _) _) _) _) _ = _
  rw [shapeCast_shapeCast]
  rfl

/-- A computed block, element by element. -/
theorem pay38_ideal (s : Ideal .f32) (X : Vec Ideal S256x4096 .bf16) (W : Vec Ideal S4096x512 .bf16) (a : Fin 256) (b : Fin 512) :
    k0_pay38 s X W (ValueIdx.ix2 a b) = (∑ k : Fin 4096, X (ValueIdx.ix2 a k) * W (ValueIdx.ix2 k b)) * s := by
  have h := Ideal.matmul_plain_apply (φ₁ := .bf16) (φ₂ := .bf16) none X W (constant (F := Ideal) S256x512 .f32 0x00000000#32) a b
  have z : constant (F := Ideal) S256x512 .f32 0x00000000#32 (ValueIdx.ix2 a b) = 0 := by
    simp [constant]
  rw [z, zero_add] at h
  exact congrArg (· * s) h

/-! ## What the body reads -/

variable (m : (ℓ : Loc nD τ sig) → Buf (Elt Ideal) ℓ)

theorem xAt_eq (c : Dev nD) : xAt m c = m ((c : Thread nD τ).loc main_arg0) :=
  Memref.read_access_unit_zero (Elt Ideal) main_arg0 (by decide) _ _
theorem sxAt_eq (c : Dev nD) : sxAt m c = m ((c : Thread nD τ).loc main_arg2) :=
  Memref.read_access_unit_zero (Elt Ideal) main_arg2 (by decide) _ _
theorem swAt_eq (c : Dev nD) : swAt m c = m ((c : Thread nD τ).loc main_arg3) :=
  Memref.read_access_unit_zero (Elt Ideal) main_arg3 (by decide) _ _

/-- The weights met for the partner `j` places on are the columns that lie on that partner. -/
theorem wAt_apply (c : Dev nD) (j : Fin 16) (a : Fin 4096) (b : Fin 512) (b' : Fin 8192) (hb : b'.val = 512 * (fwd c j).val + b.val) :
    wAt m c j (ValueIdx.ix2 a b) = (m ((c : Thread nD τ).loc main_arg1) : FVec Ideal S4096x8192 .f32) (ValueIdx.ix2 a b') := by
  have e0 := ValueKit.view_emb_slice_whole_unit_val main_arg1 (k0_off1 c (BitVec.ofNat 32 j.val)) S4096x512.size (k0_off1_inb c j) (ValueIdx.ix2 a b) 0
  have e1 := ValueKit.view_emb_slice_whole_unit_val main_arg1 (k0_off1 c (BitVec.ofNat 32 j.val)) S4096x512.size (k0_off1_inb c j) (ValueIdx.ix2 a b) 1
  have o0 : k0_off1 c (BitVec.ofNat 32 j.val) 0 = 0 := congrFun (off1_eq c j) 0
  have o1 : k0_off1 c (BitVec.ofNat 32 j.val) 1 = 512 * (fwd c j).val := congrFun (off1_eq c j) 1
  refine congrArg (m ((c : Thread nD τ).loc main_arg1)) (Shape.idx_ext₂ (e0.trans ?_) (e1.trans ?_))
  · rw [o0]; exact Nat.zero_add _
  · rw [o1]; exact hb.symm

/-! ## The result -/

/-- The arguments of a device, as arrays of numbers. -/
def inX (s : Dev nD) : FVec Ideal S256x4096 .f32 := m ((s : Thread nD τ).loc main_arg0)
def inW (s : Dev nD) : FVec Ideal S4096x8192 .f32 := m ((s : Thread nD τ).loc main_arg1)
def inSx (s : Dev nD) : FVec Ideal S1 .f32 := m ((s : Thread nD τ).loc main_arg2)
def inSw (s : Dev nD) : FVec Ideal S1 .f32 := m ((s : Thread nD τ).loc main_arg3)

/-- Row block `s` of the result on device `c`. -/
theorem blkAt_ideal (c s : Dev nD) (a : Fin 256) (b : Fin 512) (b' : Fin 8192) (hb : b'.val = 512 * c.val + b.val) :
    blkAt m c s (ValueIdx.ix2 a b)
      = (∑ k : Fin 4096, inX m s (ValueIdx.ix2 a k) * inW m s (ValueIdx.ix2 k b'))
        * (inSx m s i0 * inSw m s i0) := by
  have key : ∀ j : Fin 16, fwd s j = c → k0_pay38 (sAt m s) (xbAt m s) (wbAt m s j) (ValueIdx.ix2 a b)
      = (∑ k : Fin 4096, inX m s (ValueIdx.ix2 a k) * inW m s (ValueIdx.ix2 k b'))
        * (inSx m s i0 * inSw m s i0) := by
    intro j hj
    unfold sAt xbAt wbAt
    rw [pay1_ideal, pay3_ideal, pay38_ideal, xAt_eq, sxAt_eq, swAt_eq]
    refine congrArg (· * _) (Finset.sum_congr rfl fun k _ => ?_)
    rw [wAt_apply m s j k b b' (by rw [hj]; exact hb)]
    rfl
  rcases dev_cases c s with rfl | ⟨r, rfl⟩
  · rw [blkAt_own]
    exact key 0 (fwd_zero _)
  · rw [blkAt_bwd]
    unfold arrBlk chunk
    rw [pay39_ideal]
    exact key r.succ (fwd_bwd _ _)

/-! ## The reference -/

/-- The plain scaled product of the whole arrays. -/
def refOut (X : FVec Ideal ⟨2, ![4096, 4096]⟩ .f32) (W : FVec Ideal ⟨2, ![4096, 8192]⟩ .f32) (sx sw : FVec Ideal ⟨1, ![1]⟩ .f32) :
    FVec Ideal ⟨2, ![4096, 8192]⟩ .f32 :=
  mulf (Host.dotGeneral Cert.ReferenceIdeal.dot_S4096x4096_S4096x8192_S4096x8192_1_0_0_1_n_n none X W)
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf sx sw)))

theorem one_eq (i : S1.Idx) : i = i0 := by
  funext a
  match a with
  | ⟨0, _⟩ => exact Subsingleton.elim (α := Fin 1) _ _

theorem refOut_apply (X : FVec Ideal ⟨2, ![4096, 4096]⟩ .f32) (W : FVec Ideal ⟨2, ![4096, 8192]⟩ .f32) (sx sw : FVec Ideal ⟨1, ![1]⟩ .f32)
    (a : Fin 4096) (b : Fin 8192) :
    refOut X W sx sw (ValueIdx.ix2 a b) = (∑ k : Fin 4096, X (ValueIdx.ix2 a k) * W (ValueIdx.ix2 k b)) * (sx i0 * sw i0) := by
  have h := StackMember.dotGeneral_plain_apply (φ₁ := .f32) (φ₂ := .f32) none X W a b
  rw [← h]
  refine congrArg₂ (· * ·) rfl ?_
  exact congrArg (mulf sx sw) (one_eq _)

/-- The result on device `c` is the part of the plain scaled product that the mesh puts there. -/
theorem outAt_ref (X : FVec Ideal ⟨2, ![4096, 4096]⟩ .f32) (W : FVec Ideal ⟨2, ![4096, 8192]⟩ .f32) (sx sw : FVec Ideal ⟨1, ![1]⟩ .f32)
    (hX : Layout.Tiles ⟨2, ![256, 4096]⟩ ⟨2, ![4096, 4096]⟩ 0 16) (hO : Layout.Tiles ⟨2, ![4096, 512]⟩ ⟨2, ![4096, 8192]⟩ 1 16)
    (h : ∀ s : Dev nD, inX m s = Layout.block ⟨2, ![256, 4096]⟩ ⟨2, ![4096, 4096]⟩ 0 16 s X hX ∧ inW m s = W ∧ inSx m s = sx ∧ inSw m s = sw)
    (c : Dev nD) : outAt m c = Layout.block ⟨2, ![4096, 512]⟩ ⟨2, ![4096, 8192]⟩ 1 16 c (refOut X W sx sw) hO := by
  funext i
  have h0 : (i 0).val < 4096 := (i 0).isLt
  have h1 : (i 1).val < 512 := (i 1).isLt
  have hc : c.val < 16 := c.isLt
  obtain ⟨gX, gW, gx, gw⟩ := h (rowDev i)
  have eR : rowIdx i = ValueIdx.ix2 ⟨(i 0).val % 256, Nat.mod_lt _ (by decide)⟩ ⟨(i 1).val, h1⟩ := Shape.idx_ext₂ rfl rfl
  have eO : hO.idx c i = ValueIdx.ix2 ⟨(i 0).val, h0⟩ ⟨512 * c.val + (i 1).val, by omega⟩ :=
    Shape.idx_ext₂ (Layout.idx_cols_val hO c i).1 ((Layout.idx_cols_val hO c i).2.trans (congrArg (· + (i 1).val) (Nat.mul_comm _ _)))
  rw [Layout.block_apply, eO, refOut_apply]
  show blkAt m c (rowDev i) (rowIdx i) = _
  rw [eR, blkAt_ideal m c (rowDev i) _ ⟨(i 1).val, h1⟩ ⟨512 * c.val + (i 1).val, by omega⟩ rfl, gX, gW, gx, gw]
  refine congrArg (· * _) (Finset.sum_congr rfl fun k _ => congrArg (· * _) ?_)
  rw [Layout.block_apply]
  refine congrArg X (Shape.idx_ext₂ ?_ ?_)
  · refine (Layout.idx_rows_val hX (rowDev i) _).1.trans ?_
    show (i 0).val / 256 * 256 + (i 0).val % 256 = (i 0).val
    omega
  · exact (Layout.idx_rows_val hX (rowDev i) _).2

/-- The result array at the end. -/
theorem result_eq (ρ : Dev nD → PrngReg) (r : PUnit × MemSt nD τ sig (Elt Ideal)) (h : QC m ρ r) (c : Dev nD) :
    r.2.mem ((c.tc : Thread nD τ).loc main_v1) = outAt m c := by
  refine ((h c).1 (3 : Fin 4)).trans ?_
  rw [← final_out m ρ c]
  exact (Memref.read_access_unit_zero (Elt Ideal) main_v1 (by decide) _ _).symm

end Cert.KProof

end
-- ==== Proof.lean ====
/-  The five claims, assembled: the frames of the kernel, of its ideal program and of the reference, that the ideal
    program is the kernel, and that each device returns its part of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem Cert.KProof

attribute [local instance] Cert.Kernel.Gen.facts Cert.KernelIdeal.Gen.facts Cert.ReferenceIdeal.Gen.facts

/-- The kernel over the extended reals ends with its arguments unchanged and every counter at zero. -/
theorem frame_ideal : Cert.quiescent_KernelIdeal := fun m ρ _ =>
  (θ_run Cert.KernelIdeal.defs _ _).mono (fun r h => ⟨fun c => same_of m ρ r h.1 c, h.2⟩) (run_main (F := Ideal) m ρ)

/-- So does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is, device by device, its part of the reference's. -/
theorem value : Cert.algebraic_KernelIdeal_ReferenceIdeal := by
  intro m ρ m' ρ' _ hargs
  refine ⟨refOut (m' ((((0 : Dev Cert.ReferenceIdeal.nD).tc : Thread Cert.ReferenceIdeal.nD Cert.ReferenceIdeal.τ)).loc Cert.ReferenceIdeal.main_arg0))
      (m' ((((0 : Dev Cert.ReferenceIdeal.nD).tc : Thread Cert.ReferenceIdeal.nD Cert.ReferenceIdeal.τ)).loc Cert.ReferenceIdeal.main_arg1))
      (m' ((((0 : Dev Cert.ReferenceIdeal.nD).tc : Thread Cert.ReferenceIdeal.nD Cert.ReferenceIdeal.τ)).loc Cert.ReferenceIdeal.main_arg2))
      (m' ((((0 : Dev Cert.ReferenceIdeal.nD).tc : Thread Cert.ReferenceIdeal.nD Cert.ReferenceIdeal.τ)).loc Cert.ReferenceIdeal.main_arg3)), ?_, ?_⟩
  · exact (θ_run Cert.KernelIdeal.defs _ _).mono
      (fun r h c => ⟨(result_eq m ρ r h.1 c).trans (outAt_ref m _ _ _ _ _ _ hargs c), same_of m ρ r h.1 c⟩) (run_main (F := Ideal) m ρ)
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_machine, frame_ideal, frame_reference, trivial, value⟩

end Cert.Proof

end
